-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteRefIdeal (m : (ℓ : Loc Cert.RouteRefIdeal.nD Cert.RouteRefIdeal.τ Cert.RouteRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2))
      ∧ r.2.sem = fun _ => 0)

def preserves_Kernel_KernelIdeal : Prop :=
  True

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v14_0)) (v1 : (c : Dev Cert.InprojIdeal.nD) → Buf (Elt Ideal) ((c.tc : Thread Cert.InprojIdeal.nD Cert.InprojIdeal.τ).loc Cert.InprojIdeal.main_v14_1)) (v2 : (c : Dev Cert.InprojIdeal.nD) → Buf (Elt Ideal) ((c.tc : Thread Cert.InprojIdeal.nD Cert.InprojIdeal.τ).loc Cert.InprojIdeal.main_v14_2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v14_0) = v0 c
          ∧ r.2.mem ((c.tc : Thread Cert.InprojIdeal.nD Cert.InprojIdeal.τ).loc Cert.InprojIdeal.main_v14_1) = v1 c
          ∧ r.2.mem ((c.tc : Thread Cert.InprojIdeal.nD Cert.InprojIdeal.τ).loc Cert.InprojIdeal.main_v14_2) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v19) = v0 c
          ∧ r.2.mem ((c.tc : Thread Cert.InprojRefIdeal.nD Cert.InprojRefIdeal.τ).loc Cert.InprojRefIdeal.main_v23) = v1 c
          ∧ r.2.mem ((c.tc : Thread Cert.InprojRefIdeal.nD Cert.InprojRefIdeal.τ).loc Cert.InprojRefIdeal.main_v24) = v2 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Route_RouteIdeal : Prop :=
  True

def algebraic_RouteIdeal_RouteRefIdeal_on_untied [hRouteIdeal : Cert.RouteIdeal.Facts] [hRouteRefIdeal : Cert.RouteRefIdeal.Facts] [hOn_untied : Cert.On_untied.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)) →
    ∃ (v0 : (c : Dev Cert.RouteIdeal.nD) → Buf (Elt Ideal) ((c.tc : Thread Cert.RouteIdeal.nD Cert.RouteIdeal.τ).loc Cert.RouteIdeal.main_v5_2)) (v1 : (c : Dev Cert.RouteIdeal.nD) → Buf (Elt Ideal) ((c.tc : Thread Cert.RouteIdeal.nD Cert.RouteIdeal.τ).loc Cert.RouteIdeal.main_v5_3)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          (∀ i : (⟨3, ![8, 128, 32768]⟩ : Shape).Idx, (Cert.On_untied.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))).1 i = 1#1 → r.2.mem ((c.tc : Thread Cert.RouteIdeal.nD Cert.RouteIdeal.τ).loc Cert.RouteIdeal.main_v5_2) i = v0 c i)
          ∧ (∀ i : (⟨3, ![8, 128, 32768]⟩ : Shape).Idx, (Cert.On_untied.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))).2 i = 1#1 → r.2.mem ((c.tc : Thread Cert.RouteIdeal.nD Cert.RouteIdeal.τ).loc Cert.RouteIdeal.main_v5_3) i = v1 c i)
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          (∀ i : (⟨3, ![8, 128, 32768]⟩ : Shape).Idx, (Cert.On_untied.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))).1 i = 1#1 → r.2.mem ((c.tc : Thread Cert.RouteRefIdeal.nD Cert.RouteRefIdeal.τ).loc Cert.RouteRefIdeal.main_v24) i = v0 c i)
          ∧ (∀ i : (⟨3, ![8, 128, 32768]⟩ : Shape).Idx, (Cert.On_untied.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))).2 i = 1#1 → r.2.mem ((c.tc : Thread Cert.RouteRefIdeal.nD Cert.RouteRefIdeal.τ).loc Cert.RouteRefIdeal.main_v28) i = v1 c i)
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2))

def Claim : Prop :=
  ∃ (hKernel : Cert.Kernel.Facts) (hKernelIdeal : Cert.KernelIdeal.Facts) (hInproj : Cert.Inproj.Facts) (hInprojIdeal : Cert.InprojIdeal.Facts) (hInprojRefIdeal : Cert.InprojRefIdeal.Facts) (hRoute : Cert.Route.Facts) (hRouteIdeal : Cert.RouteIdeal.Facts) (hRouteRefIdeal : Cert.RouteRefIdeal.Facts) (hOn_untied : Cert.On_untied.Facts),
    quiescent_Kernel (hKernel := hKernel)
    ∧ quiescent_KernelIdeal (hKernelIdeal := hKernelIdeal)
    ∧ quiescent_Inproj (hInproj := hInproj)
    ∧ quiescent_InprojIdeal (hInprojIdeal := hInprojIdeal)
    ∧ quiescent_InprojRefIdeal (hInprojRefIdeal := hInprojRefIdeal)
    ∧ quiescent_Route (hRoute := hRoute)
    ∧ quiescent_RouteIdeal (hRouteIdeal := hRouteIdeal)
    ∧ quiescent_RouteRefIdeal (hRouteRefIdeal := hRouteRefIdeal)
    ∧ preserves_Kernel_KernelIdeal
    ∧ preserves_Inproj_InprojIdeal
    ∧ algebraic_InprojIdeal_InprojRefIdeal (hInprojIdeal := hInprojIdeal) (hInprojRefIdeal := hInprojRefIdeal)
    ∧ preserves_Route_RouteIdeal
    ∧ algebraic_RouteIdeal_RouteRefIdeal_on_untied (hRouteIdeal := hRouteIdeal) (hRouteRefIdeal := hRouteRefIdeal) (hOn_untied := hOn_untied)
-- ==== On_untied.lean ====
abbrev S32768x1024 : Shape := ⟨2, ![32768, 1024]⟩
abbrev S1x1024x2048 : Shape := ⟨3, ![1, 1024, 2048]⟩
abbrev S1x2x128x128 : Shape := ⟨4, ![1, 2, 128, 128]⟩
abbrev S1024x2048 : Shape := ⟨2, ![1024, 2048]⟩
abbrev S32768x2048 : Shape := ⟨2, ![32768, 2048]⟩
abbrev S32768x8x2x128 : Shape := ⟨4, ![32768, 8, 2, 128]⟩
abbrev S32768x8x1x128 : Shape := ⟨4, ![32768, 8, 1, 128]⟩
abbrev S32768x8x128 : Shape := ⟨3, ![32768, 8, 128]⟩
abbrev S1x1x128x128 : Shape := ⟨4, ![1, 1, 128, 128]⟩
abbrev S128x128 : Shape := ⟨2, ![128, 128]⟩
abbrev S128x32768x8 : Shape := ⟨3, ![128, 32768, 8]⟩
abbrev S8x32768x128 : Shape := ⟨3, ![8, 32768, 128]⟩
abbrev S_ : Shape := ⟨0, ![]⟩
abbrev S8x32768 : Shape := ⟨2, ![8, 32768]⟩
abbrev S8x32768x1 : Shape := ⟨3, ![8, 32768, 1]⟩
abbrev S8x32768x1x128 : Shape := ⟨4, ![8, 32768, 1, 128]⟩
abbrev S8x32768x128x1 : Shape := ⟨4, ![8, 32768, 128, 1]⟩
abbrev S8x32768x128x128 : Shape := ⟨4, ![8, 32768, 128, 128]⟩
abbrev S8x128x32768 : Shape := ⟨3, ![8, 128, 32768]⟩
abbrev S8x1x32768 : Shape := ⟨3, ![8, 1, 32768]⟩

class Facts : Prop where
  bitsLt_bf16_f32 : FTy.bits .bf16 < FTy.bits .f32
  shapeCasts_S1x1024x2048_S1024x2048 : S1x1024x2048.ShapeCasts S1024x2048
  shapeCasts_S32768x2048_S32768x8x2x128 : S32768x2048.ShapeCasts S32768x8x2x128
  slices_S32768x8x2x128_S32768x8x1x128_0_0_1_0 : S32768x8x2x128.Slices ![0, 0, 1, 0] S32768x8x1x128
  shapeCasts_S32768x8x1x128_S32768x8x128 : S32768x8x1x128.ShapeCasts S32768x8x128
  slices_S1x2x128x128_S1x1x128x128_0_1_0_0 : S1x2x128x128.Slices ![0, 1, 0, 0] S1x1x128x128
  shapeCasts_S1x1x128x128_S128x128 : S1x1x128x128.ShapeCasts S128x128
  transposes_S128x32768x8_S8x32768x128_2_1_0 : S128x32768x8.Transposes [2, 1, 0] S8x32768x128
  reducesTo_S8x32768x128_S8x32768_d2 : S8x32768x128.ReducesTo [2] S8x32768
  h_S_ : 0 < S_.numel
  bcast_S8x32768_S8x32768x1_0_1 : S8x32768.BroadcastsInDim S8x32768x1 (![0, 1] : Fin 2 → Fin S8x32768x1.rank)
  bcast_S8x32768x1_S8x32768x128_0_1_2 : S8x32768x1.BroadcastsInDim S8x32768x128 (![0, 1, 2] : Fin 3 → Fin S8x32768x128.rank)
  bcast_S8x32768x128_S8x32768x1x128_0_1_3 : S8x32768x128.BroadcastsInDim S8x32768x1x128 (![0, 1, 3] : Fin 3 → Fin S8x32768x1x128.rank)
  bcast_S8x32768x128_S8x32768x128x1_0_1_2 : S8x32768x128.BroadcastsInDim S8x32768x128x1 (![0, 1, 2] : Fin 3 → Fin S8x32768x128x1.rank)
  bcast_S8x32768x1x128_S8x32768x128x128_0_1_2_3 : S8x32768x1x128.BroadcastsInDim S8x32768x128x128 (![0, 1, 2, 3] : Fin 4 → Fin S8x32768x128x128.rank)
  bcast_S8x32768x128x1_S8x32768x128x128_0_1_2_3 : S8x32768x128x1.BroadcastsInDim S8x32768x128x128 (![0, 1, 2, 3] : Fin 4 → Fin S8x32768x128x128.rank)
  bcast_S_S8x32768x128x128 : S_.BroadcastsInDim S8x32768x128x128 (![] : Fin 0 → Fin S8x32768x128x128.rank)
  reducesTo_S8x32768x128x128_S8x32768x128_d3 : S8x32768x128x128.ReducesTo [3] S8x32768x128
  bcast_S_S8x32768 : S_.BroadcastsInDim S8x32768 (![] : Fin 0 → Fin S8x32768.rank)
  bcast_S_S8x128x32768 : S_.BroadcastsInDim S8x128x32768 (![] : Fin 0 → Fin S8x128x32768.rank)
  bcast_S8x32768_S8x1x32768_0_2 : S8x32768.BroadcastsInDim S8x1x32768 (![0, 2] : Fin 2 → Fin S8x1x32768.rank)
  bcast_S8x1x32768_S8x128x32768_0_1_2 : S8x1x32768.BroadcastsInDim S8x128x32768 (![0, 1, 2] : Fin 3 → Fin S8x128x32768.rank)
  dot_S32768x1024_S1024x2048_S32768x2048_1_0_0_1_n_n_wf : DotDims.WF S32768x1024 S1024x2048 S32768x2048 [1] [0] [0] [1] [] []
  dot_S128x128_S32768x8x128_S128x32768x8_1_2_0_01_n_n_wf : DotDims.WF S128x128 S32768x8x128 S128x32768x8 [1] [2] [0] [0, 1] [] []

variable [Facts]

def dot_S32768x1024_S1024x2048_S32768x2048_1_0_0_1_n_n : DotDims S32768x1024 S1024x2048 S32768x2048 where
  lhsContracting := [1]
  rhsContracting := [0]
  lhsNonContracting := [0]
  rhsNonContracting := [1]
  lhsBatch := []
  rhsBatch := []
  wf := dot_S32768x1024_S1024x2048_S32768x2048_1_0_0_1_n_n_wf
def dot_S128x128_S32768x8x128_S128x32768x8_1_2_0_01_n_n : DotDims S128x128 S32768x8x128 S128x32768x8 where
  lhsContracting := [1]
  rhsContracting := [2]
  lhsNonContracting := [0]
  rhsNonContracting := [0, 1]
  lhsBatch := []
  rhsBatch := []
  wf := dot_S128x128_S32768x8x128_S128x32768x8_1_2_0_01_n_n_wf
def fn_where {F : FTy → Type} [FloatOps F] (arg0 : IVec S8x32768x128x128 1) (arg1 : FVec F S_ .f32) (arg2 : FVec F S_ .f32) : FVec F S8x32768x128x128 .f32 :=
  let v0 : FVec F S8x32768x128x128 .f32 := broadcastInDim S8x32768x128x128 ![] bcast_S_S8x32768x128x128 arg1
  let v1 : FVec F S8x32768x128x128 .f32 := broadcastInDim S8x32768x128x128 ![] bcast_S_S8x32768x128x128 arg2
  let v2 : FVec F S8x32768x128x128 .f32 := select arg0 v0 v1
  v2

def fn_part1 {F : FTy → Type} [FloatOps F] (main_v20 : FVec F S8x32768x128x128 .f32) : IVec S8x128x32768 1 × IVec S8x128x32768 1 :=
  let main_v21 : FVec F S8x32768x128x128 .f32 := id main_v20
  let main_cst_2 : FVec F S_ .f32 := constant S_ .f32 0x00000000#32
  let main_v22 : FVec F S8x32768x128 .f32 := (fun x v => Host.reduceAdd x v reducesTo_S8x32768x128x128_S8x32768x128_d3 h_S_) main_v21 main_cst_2
  let main_cst_3 : FVec F S_ .f32 := constant S_ .f32 0xFF800000#32
  let main_v23 : FVec F S8x32768 .f32 := (fun x v => Host.reduce FloatOps.maximumf x v reducesTo_S8x32768x128_S8x32768_d2 h_S_) main_v22 main_cst_3
  let main_cst_4 : FVec F S_ .f32 := constant S_ .f32 0x3F800000#32
  let main_v24 : FVec F S8x32768 .f32 := broadcastInDim S8x32768 ![] bcast_S_S8x32768 main_cst_4
  let main_v25 : IVec S8x32768 1 := cmpf .ole main_v23 main_v24
  let main_c : IVec S_ 1 := constantI S_ 1 1#1
  let main_v26 : IVec S8x128x32768 1 := broadcastInDim S8x128x32768 ![] bcast_S_S8x128x32768 main_c
  let main_v27 : IVec S8x1x32768 1 := broadcastInDim S8x1x32768 ![0, 2] bcast_S8x32768_S8x1x32768_0_2 main_v25
  let main_v28 : IVec S8x128x32768 1 := broadcastInDim S8x128x32768 ![0, 1, 2] bcast_S8x1x32768_S8x128x32768_0_1_2 main_v27
  (main_v26, main_v28)

def fn {F : FTy → Type} [FloatOps F] (main_arg0 : FVec F S32768x1024 .bf16) (main_arg1 : FVec F S1x1024x2048 .f32) (main_arg2 : FVec F S1x2x128x128 .f32) : IVec S8x128x32768 1 × IVec S8x128x32768 1 :=
  let main_v0 : FVec F S32768x1024 .f32 := (extf .f32 · bitsLt_bf16_f32) main_arg0
  let main_v1 : FVec F S1024x2048 .f32 := shapeCast S1024x2048 main_arg1 shapeCasts_S1x1024x2048_S1024x2048
  let main_v2 : FVec F S32768x2048 .f32 := (fun l r => Host.dotGeneral dot_S32768x1024_S1024x2048_S32768x2048_1_0_0_1_n_n none l r) main_v0 main_v1
  let main_v3 : FVec F S32768x8x2x128 .f32 := shapeCast S32768x8x2x128 main_v2 shapeCasts_S32768x2048_S32768x8x2x128
  let main_v4 : FVec F S32768x8x1x128 .f32 := (extractStridedSlice S32768x8x1x128 ![0, 0, 1, 0] · slices_S32768x8x2x128_S32768x8x1x128_0_0_1_0) main_v3
  let main_v5 : FVec F S32768x8x128 .f32 := shapeCast S32768x8x128 main_v4 shapeCasts_S32768x8x1x128_S32768x8x128
  let main_v6 : FVec F S1x1x128x128 .f32 := (extractStridedSlice S1x1x128x128 ![0, 1, 0, 0] · slices_S1x2x128x128_S1x1x128x128_0_1_0_0) main_arg2
  let main_v7 : FVec F S128x128 .f32 := shapeCast S128x128 main_v6 shapeCasts_S1x1x128x128_S128x128
  let main_v8 : FVec F S128x32768x8 .f32 := (fun l r => Host.dotGeneral dot_S128x128_S32768x8x128_S128x32768x8_1_2_0_01_n_n none l r) main_v7 main_v5
  let main_v9 : FVec F S8x32768x128 .f32 := (transpose S8x32768x128 [2, 1, 0] · transposes_S128x32768x8_S8x32768x128_2_1_0) main_v8
  let main_cst : FVec F S_ .f32 := constant S_ .f32 0xFF800000#32
  let main_v10 : FVec F S8x32768 .f32 := (fun x v => Host.reduce FloatOps.maximumf x v reducesTo_S8x32768x128_S8x32768_d2 h_S_) main_v9 main_cst
  let main_v11 : FVec F S8x32768x1 .f32 := broadcastInDim S8x32768x1 ![0, 1] bcast_S8x32768_S8x32768x1_0_1 main_v10
  let main_v12 : FVec F S8x32768x128 .f32 := broadcastInDim S8x32768x128 ![0, 1, 2] bcast_S8x32768x1_S8x32768x128_0_1_2 main_v11
  let main_v13 : FVec F S8x32768x128 .f32 := subf main_v9 main_v12
  let main_v14 : FVec F S8x32768x128 .f32 := Host.exp main_v13
  let main_v15 : FVec F S8x32768x1x128 .f32 := broadcastInDim S8x32768x1x128 ![0, 1, 3] bcast_S8x32768x128_S8x32768x1x128_0_1_3 main_v14
  let main_v16 : FVec F S8x32768x128x1 .f32 := broadcastInDim S8x32768x128x1 ![0, 1, 2] bcast_S8x32768x128_S8x32768x128x1_0_1_2 main_v14
  let main_v17 : FVec F S8x32768x128x128 .f32 := broadcastInDim S8x32768x128x128 ![0, 1, 2, 3] bcast_S8x32768x1x128_S8x32768x128x128_0_1_2_3 main_v15
  let main_v18 : FVec F S8x32768x128x128 .f32 := broadcastInDim S8x32768x128x128 ![0, 1, 2, 3] bcast_S8x32768x128x1_S8x32768x128x128_0_1_2_3 main_v16
  let main_v19 : IVec S8x32768x128x128 1 := cmpf .oeq main_v17 main_v18
  let main_cst_0 : FVec F S_ .f32 := constant S_ .f32 0x3F800000#32
  let main_cst_1 : FVec F S_ .f32 := constant S_ .f32 0x00000000#32
  let main_v20 : FVec F S8x32768x128x128 .f32 := fn_where (F := F) main_v19 main_cst_0 main_cst_1
  fn_part1 (F := F) main_v20
-- ==== Kernel.lean ====
abbrev S8x4096x1024 : Shape := ⟨3, ![8, 4096, 1024]⟩
abbrev S32768x3584 : Shape := ⟨2, ![32768, 3584]⟩
abbrev S32768x128 : Shape := ⟨2, ![32768, 128]⟩
abbrev S128x32768 : Shape := ⟨2, ![128, 32768]⟩
abbrev S1x4x1024 : Shape := ⟨3, ![1, 4, 1024]⟩
abbrev S1x1024 : Shape := ⟨2, ![1, 1024]⟩
abbrev S1x8 : Shape := ⟨2, ![1, 8]⟩
abbrev S1x512 : Shape := ⟨2, ![1, 512]⟩
abbrev S1x4x1536 : Shape := ⟨3, ![1, 4, 1536]⟩
abbrev S1x4 : Shape := ⟨2, ![1, 4]⟩
abbrev S1x128 : Shape := ⟨2, ![1, 128]⟩
abbrev S1x1024x1024 : Shape := ⟨3, ![1, 1024, 1024]⟩
abbrev S32768x1024 : Shape := ⟨2, ![32768, 1024]⟩
abbrev S_ : Shape := ⟨0, ![]⟩
abbrev S4 : Shape := ⟨1, ![4]⟩
abbrev S8 : Shape := ⟨1, ![8]⟩
abbrev S16 : Shape := ⟨1, ![16]⟩
abbrev S1x16 : Shape := ⟨2, ![1, 16]⟩
abbrev S2x16 : Shape := ⟨2, ![2, 16]⟩
abbrev S8x128 : Shape := ⟨2, ![8, 128]⟩
abbrev S16x1 : Shape := ⟨2, ![16, 1]⟩
abbrev S16x2 : Shape := ⟨2, ![16, 2]⟩
abbrev S128x128 : Shape := ⟨2, ![128, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x1024 : Shape := ⟨2, ![4, 1024]⟩
abbrev S1024 : Shape := ⟨1, ![1024]⟩
abbrev S4x1536 : Shape := ⟨2, ![4, 1536]⟩
abbrev S128 : Shape := ⟨1, ![128]⟩
abbrev S128x1 : Shape := ⟨2, ![128, 1]⟩
abbrev S512 : Shape := ⟨1, ![512]⟩
abbrev S128x512 : Shape := ⟨2, ![128, 512]⟩
abbrev S8x64 : Shape := ⟨2, ![8, 64]⟩
abbrev S1024x1024 : Shape := ⟨2, ![1024, 1024]⟩
abbrev S256x3584 : Shape := ⟨2, ![256, 3584]⟩
abbrev S256x128 : Shape := ⟨2, ![256, 128]⟩
abbrev S128x256 : Shape := ⟨2, ![128, 256]⟩
abbrev S256x1024 : Shape := ⟨2, ![256, 1024]⟩
abbrev S264x1024 : Shape := ⟨2, ![264, 1024]⟩
abbrev S264x1536 : Shape := ⟨2, ![264, 1536]⟩
abbrev S2x128x256 : Shape := ⟨3, ![2, 128, 256]⟩
abbrev S4x128x128 : Shape := ⟨3, ![4, 128, 128]⟩
abbrev S256x512 : Shape := ⟨2, ![256, 512]⟩
abbrev S8x1024 : Shape := ⟨2, ![8, 1024]⟩
abbrev S8x1536 : Shape := ⟨2, ![8, 1536]⟩
abbrev S3x1024 : Shape := ⟨2, ![3, 1024]⟩
abbrev S256x1536 : Shape := ⟨2, ![256, 1536]⟩
abbrev S1x1536 : Shape := ⟨2, ![1, 1536]⟩
abbrev S3x1536 : Shape := ⟨2, ![3, 1536]⟩
abbrev S64x64 : Shape := ⟨2, ![64, 64]⟩
abbrev S64x128 : Shape := ⟨2, ![64, 128]⟩
abbrev S64x1 : Shape := ⟨2, ![64, 1]⟩
abbrev S1x64 : Shape := ⟨2, ![1, 64]⟩
abbrev S128x64 : Shape := ⟨2, ![128, 64]⟩
abbrev S64x256 : Shape := ⟨2, ![64, 256]⟩
abbrev S1x128x256 : Shape := ⟨3, ![1, 128, 256]⟩
abbrev S1x128x128 : Shape := ⟨3, ![1, 128, 128]⟩

abbrev nBuf : Space → Nat
  | .hbm => 200
  | .vmem => 34
  | .smem => 0
  | _ => 0

abbrev hbmTy0_0 (i : Nat) : BufTy := match i % 128 with
  | 0 => ⟨S8x4096x1024, .f32⟩
  | 1 => ⟨S32768x3584, .f32⟩
  | 2 => ⟨S32768x128, .f32⟩
  | 3 => ⟨S128x32768, .f32⟩
  | 4 => ⟨S1x4x1024, .f32⟩
  | 5 => ⟨S1x1024, .f32⟩
  | 6 => ⟨S1x8, .f32⟩
  | 7 => ⟨S1x8, .f32⟩
  | 8 => ⟨S1x8, .f32⟩
  | 9 => ⟨S1x512, .f32⟩
  | 10 => ⟨S1x4x1536, .f32⟩
  | 11 => ⟨S1x4, .f32⟩
  | 12 => ⟨S1x4, .f32⟩
  | 13 => ⟨S1x128, .f32⟩
  | 14 => ⟨S1x1024x1024, .f32⟩
  | 15 => ⟨S1x1024, .f32⟩
  | 16 => ⟨S32768x1024, .f32⟩
  | 17 => ⟨S_, .f32⟩
  | 18 => ⟨S4, .f32⟩
  | 19 => ⟨S8, .f32⟩
  | 20 => ⟨S4, .f32⟩
  | 21 => ⟨S16, .f32⟩
  | 22 => ⟨S8, .f32⟩
  | 23 => ⟨S8, .f32⟩
  | 24 => ⟨S8, .f32⟩
  | 25 => ⟨S4, .f32⟩
  | 26 => ⟨S4, .f32⟩
  | 27 => ⟨S4, .f32⟩
  | 28 => ⟨S16, .f32⟩
  | 29 => ⟨S1x16, .f32⟩
  | 30 => ⟨S1x16, .f32⟩
  | 31 => ⟨S2x16, .f32⟩
  | 32 => ⟨S_, .i32⟩
  | 33 => ⟨S_, .f32⟩
  | 34 => ⟨S8x128, .f32⟩
  | 35 => ⟨S16x1, .f32⟩
  | 36 => ⟨S16x1, .f32⟩
  | 37 => ⟨S16x2, .f32⟩
  | 38 => ⟨S_, .i32⟩
  | 39 => ⟨S_, .f32⟩
  | 40 => ⟨S128x128, .f32⟩
  | 41 => ⟨S256, .i32⟩
  | 42 => ⟨S256x1, .i32⟩
  | 43 => ⟨S256, .i32⟩
  | 44 => ⟨S1x256, .i32⟩
  | 45 => ⟨S_, .i32⟩
  | 46 => ⟨S_, .i32⟩
  | 47 => ⟨S256x1, .i32⟩
  | 48 => ⟨S256x1, .i32⟩
  | 49 => ⟨S256x1, .i32⟩
  | 50 => ⟨S_, .i32⟩
  | 51 => ⟨S256x1, .i32⟩
  | 52 => ⟨S256x1, .i1⟩
  | 53 => ⟨S256x1, .i32⟩
  | 54 => ⟨S256x1, .i32⟩
  | 55 => ⟨S_, .i32⟩
  | 56 => ⟨S256x1, .i32⟩
  | 57 => ⟨S256x1, .i1⟩
  | 58 => ⟨S256x1, .i1⟩
  | 59 => ⟨S_, .i32⟩
  | 60 => ⟨S256x1, .i32⟩
  | 61 => ⟨S256x1, .i32⟩
  | 62 => ⟨S256x1, .i32⟩
  | 63 => ⟨S_, .i32⟩
  | 64 => ⟨S_, .i32⟩
  | 65 => ⟨S1x256, .i32⟩
  | 66 => ⟨S1x256, .i32⟩
  | 67 => ⟨S1x256, .i32⟩
  | 68 => ⟨S_, .i32⟩
  | 69 => ⟨S1x256, .i32⟩
  | 70 => ⟨S1x256, .i1⟩
  | 71 => ⟨S1x256, .i32⟩
  | 72 => ⟨S1x256, .i32⟩
  | 73 => ⟨S_, .i32⟩
  | 74 => ⟨S1x256, .i32⟩
  | 75 => ⟨S1x256, .i1⟩
  | 76 => ⟨S1x256, .i1⟩
  | 77 => ⟨S_, .i32⟩
  | 78 => ⟨S1x256, .i32⟩
  | 79 => ⟨S1x256, .i32⟩
  | 80 => ⟨S1x256, .i32⟩
  | 81 => ⟨S256x256, .i32⟩
  | 82 => ⟨S256x256, .i32⟩
  | 83 => ⟨S256x256, .i1⟩
  | 84 => ⟨S256x256, .i32⟩
  | 85 => ⟨S256x256, .i32⟩
  | 86 => ⟨S256x256, .i1⟩
  | 87 => ⟨S256x256, .i1⟩
  | 88 => ⟨S256x256, .bf16⟩
  | 89 => ⟨S256x256, .i32⟩
  | 90 => ⟨S256x256, .i32⟩
  | 91 => ⟨S256x256, .i1⟩
  | 92 => ⟨S256x256, .i1⟩
  | 93 => ⟨S256x256, .bf16⟩
  | 94 => ⟨S256x256, .bf16⟩
  | 95 => ⟨S4x1024, .f32⟩
  | 96 => ⟨S1024, .f32⟩
  | 97 => ⟨S1x1024, .f32⟩
  | 98 => ⟨S4x1536, .f32⟩
  | 99 => ⟨S128, .i32⟩
  | 100 => ⟨S128x1, .i32⟩
  | 101 => ⟨S512, .i32⟩
  | 102 => ⟨S1x512, .i32⟩
  | 103 => ⟨S_, .i32⟩
  | 104 => ⟨S_, .i32⟩
  | 105 => ⟨S1x512, .i32⟩
  | 106 => ⟨S1x512, .i32⟩
  | 107 => ⟨S1x512, .i32⟩
  | 108 => ⟨S_, .i32⟩
  | 109 => ⟨S1x512, .i32⟩
  | 110 => ⟨S1x512, .i1⟩
  | 111 => ⟨S1x512, .i32⟩
  | 112 => ⟨S1x512, .i32⟩
  | 113 => ⟨S_, .i32⟩
  | 114 => ⟨S1x512, .i32⟩
  | 115 => ⟨S1x512, .i1⟩
  | 116 => ⟨S1x512, .i1⟩
  | 117 => ⟨S_, .i32⟩
  | 118 => ⟨S1x512, .i32⟩
  | 119 => ⟨S1x512, .i32⟩
  | 120 => ⟨S1x512, .i32⟩
  | 121 => ⟨S_, .i32⟩
  | 122 => ⟨S1x512, .i32⟩
  | 123 => ⟨S1x512, .i32⟩
  | 124 => ⟨S128x512, .i32⟩
  | 125 => ⟨S128x512, .i32⟩
  | 126 => ⟨S128x512, .i1⟩
  | 127 => ⟨S128x512, .bf16⟩
  | _ => ⟨S8x4096x1024, .f32⟩

abbrev hbmTy0_1 (i : Nat) : BufTy := match i % 128 with
  | 0 => ⟨S128, .i32⟩
  | 1 => ⟨S128x1, .i32⟩
  | 2 => ⟨S512, .i32⟩
  | 3 => ⟨S1x512, .i32⟩
  | 4 => ⟨S_, .i32⟩
  | 5 => ⟨S_, .i32⟩
  | 6 => ⟨S1x512, .i32⟩
  | 7 => ⟨S1x512, .i32⟩
  | 8 => ⟨S1x512, .i32⟩
  | 9 => ⟨S_, .i32⟩
  | 10 => ⟨S1x512, .i32⟩
  | 11 => ⟨S1x512, .i1⟩
  | 12 => ⟨S1x512, .i32⟩
  | 13 => ⟨S1x512, .i32⟩
  | 14 => ⟨S_, .i32⟩
  | 15 => ⟨S1x512, .i32⟩
  | 16 => ⟨S1x512, .i1⟩
  | 17 => ⟨S1x512, .i1⟩
  | 18 => ⟨S_, .i32⟩
  | 19 => ⟨S1x512, .i32⟩
  | 20 => ⟨S1x512, .i32⟩
  | 21 => ⟨S1x512, .i32⟩
  | 22 => ⟨S_, .i32⟩
  | 23 => ⟨S1x512, .i32⟩
  | 24 => ⟨S1x512, .i32⟩
  | 25 => ⟨S128x512, .i32⟩
  | 26 => ⟨S128x512, .i32⟩
  | 27 => ⟨S128x512, .i1⟩
  | 28 => ⟨S128x512, .bf16⟩
  | 29 => ⟨S128, .i32⟩
  | 30 => ⟨S128x1, .i32⟩
  | 31 => ⟨S512, .i32⟩
  | 32 => ⟨S1x512, .i32⟩
  | 33 => ⟨S_, .i32⟩
  | 34 => ⟨S_, .i32⟩
  | 35 => ⟨S1x512, .i32⟩
  | 36 => ⟨S1x512, .i32⟩
  | 37 => ⟨S1x512, .i32⟩
  | 38 => ⟨S_, .i32⟩
  | 39 => ⟨S1x512, .i32⟩
  | 40 => ⟨S1x512, .i1⟩
  | 41 => ⟨S1x512, .i32⟩
  | 42 => ⟨S1x512, .i32⟩
  | 43 => ⟨S_, .i32⟩
  | 44 => ⟨S1x512, .i32⟩
  | 45 => ⟨S1x512, .i1⟩
  | 46 => ⟨S1x512, .i1⟩
  | 47 => ⟨S_, .i32⟩
  | 48 => ⟨S1x512, .i32⟩
  | 49 => ⟨S1x512, .i32⟩
  | 50 => ⟨S1x512, .i32⟩
  | 51 => ⟨S_, .i32⟩
  | 52 => ⟨S1x512, .i32⟩
  | 53 => ⟨S1x512, .i32⟩
  | 54 => ⟨S128x512, .i32⟩
  | 55 => ⟨S128x512, .i32⟩
  | 56 => ⟨S128x512, .i1⟩
  | 57 => ⟨S128x512, .bf16⟩
  | 58 => ⟨S8, .f32⟩
  | 59 => ⟨S8x64, .f32⟩
  | 60 => ⟨S512, .f32⟩
  | 61 => ⟨S1x512, .f32⟩
  | 62 => ⟨S512, .f32⟩
  | 63 => ⟨S1x512, .f32⟩
  | 64 => ⟨S128, .f32⟩
  | 65 => ⟨S1x128, .f32⟩
  | 66 => ⟨S1024x1024, .f32⟩
  | 67 => ⟨S1024x1024, .bf16⟩
  | 68 => ⟨S1024, .f32⟩
  | 69 => ⟨S1x1024, .f32⟩
  | 70 => ⟨S32768x1024, .f32⟩
  | 71 => ⟨S32768x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S256x3584, .f32⟩
  | .local _ .vmem, ⟨1, _⟩ => ⟨S256x3584, .f32⟩
  | .local _ .vmem, ⟨2, _⟩ => ⟨S256x128, .f32⟩
  | .local _ .vmem, ⟨3, _⟩ => ⟨S256x128, .f32⟩
  | .local _ .vmem, ⟨4, _⟩ => ⟨S128x256, .f32⟩
  | .local _ .vmem, ⟨5, _⟩ => ⟨S128x256, .f32⟩
  | .local _ .vmem, ⟨6, _⟩ => ⟨S256x1024, .f32⟩
  | .local _ .vmem, ⟨7, _⟩ => ⟨S256x1024, .f32⟩
  | .local _ .vmem, ⟨8, _⟩ => ⟨S4x1024, .f32⟩
  | .local _ .vmem, ⟨9, _⟩ => ⟨S1x1024, .f32⟩
  | .local _ .vmem, ⟨10, _⟩ => ⟨S4x1536, .f32⟩
  | .local _ .vmem, ⟨11, _⟩ => ⟨S8x128, .f32⟩
  | .local _ .vmem, ⟨12, _⟩ => ⟨S128x128, .f32⟩
  | .local _ .vmem, ⟨13, _⟩ => ⟨S256x256, .bf16⟩
  | .local _ .vmem, ⟨14, _⟩ => ⟨S256x256, .bf16⟩
  | .local _ .vmem, ⟨15, _⟩ => ⟨S256x256, .bf16⟩
  | .local _ .vmem, ⟨16, _⟩ => ⟨S128x512, .bf16⟩
  | .local _ .vmem, ⟨17, _⟩ => ⟨S128x512, .bf16⟩
  | .local _ .vmem, ⟨18, _⟩ => ⟨S128x512, .bf16⟩
  | .local _ .vmem, ⟨19, _⟩ => ⟨S1x512, .f32⟩
  | .local _ .vmem, ⟨20, _⟩ => ⟨S1x512, .f32⟩
  | .local _ .vmem, ⟨21, _⟩ => ⟨S1x128, .f32⟩
  | .local _ .vmem, ⟨22, _⟩ => ⟨S1024x1024, .bf16⟩
  | .local _ .vmem, ⟨23, _⟩ => ⟨S1x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .bf16⟩
  | .local _ .vmem, ⟨27, _⟩ => ⟨S256x1024, .bf16⟩
  | .local _ .vmem, ⟨28, _⟩ => ⟨S264x1024, .f32⟩
  | .local _ .vmem, ⟨29, _⟩ => ⟨S264x1536, .f32⟩
  | .local _ .vmem, ⟨30, _⟩ => ⟨S2x128x256, .f32⟩
  | .local _ .vmem, ⟨31, _⟩ => ⟨S4x128x128, .f32⟩
  | .local _ .vmem, ⟨32, _⟩ => ⟨S256x512, .f32⟩
  | .local _ .vmem, ⟨33, _⟩ => ⟨S256x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_call0_v0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_0 : Ref sig .tc := ⟨.hbm, 38, rfl⟩
abbrev main_call1_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_1 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_c : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_0 : Ref sig .tc := ⟨.hbm, 59, rfl⟩
abbrev main_call2_v12 : Ref sig .tc := ⟨.hbm, 60, rfl⟩
abbrev main_call2_v13 : Ref sig .tc := ⟨.hbm, 61, rfl⟩
abbrev main_v24 : Ref sig .tc := ⟨.hbm, 62, rfl⟩
abbrev main_c_2 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_v6 : Ref sig .tc := ⟨.hbm, 70, rfl⟩
abbrev main_call3_v7 : Ref sig .tc := ⟨.hbm, 71, rfl⟩
abbrev main_call3_v8 : Ref sig .tc := ⟨.hbm, 72, rfl⟩
abbrev main_call3_c : Ref sig .tc := ⟨.hbm, 73, rfl⟩
abbrev main_call3_v9 : Ref sig .tc := ⟨.hbm, 74, rfl⟩
abbrev main_call3_v10 : Ref sig .tc := ⟨.hbm, 75, rfl⟩
abbrev main_call3_v11 : Ref sig .tc := ⟨.hbm, 76, rfl⟩
abbrev main_call3_c_0 : Ref sig .tc := ⟨.hbm, 77, rfl⟩
abbrev main_call3_v12 : Ref sig .tc := ⟨.hbm, 78, rfl⟩
abbrev main_call3_v13 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_c_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_call4_v5 : Ref sig .tc := ⟨.hbm, 109, rfl⟩
abbrev main_call4_v6 : Ref sig .tc := ⟨.hbm, 110, rfl⟩
abbrev main_call4_v7 : Ref sig .tc := ⟨.hbm, 111, rfl⟩
abbrev main_call4_v8 : Ref sig .tc := ⟨.hbm, 112, rfl⟩
abbrev main_call4_c : Ref sig .tc := ⟨.hbm, 113, rfl⟩
abbrev main_call4_v9 : Ref sig .tc := ⟨.hbm, 114, rfl⟩
abbrev main_call4_v10 : Ref sig .tc := ⟨.hbm, 115, rfl⟩
abbrev main_call4_v11 : Ref sig .tc := ⟨.hbm, 116, rfl⟩
abbrev main_call4_c_0 : Ref sig .tc := ⟨.hbm, 117, rfl⟩
abbrev main_call4_v12 : Ref sig .tc := ⟨.hbm, 118, rfl⟩
abbrev main_call4_v13 : Ref sig .tc := ⟨.hbm, 119, rfl⟩
abbrev main_v48 : Ref sig .tc := ⟨.hbm, 120, rfl⟩
abbrev main_c_4 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_c_5 : Ref sig .tc := ⟨.hbm, 132, rfl⟩
abbrev main_call5_v0 : Ref sig .tc := ⟨.hbm, 133, rfl⟩
abbrev main_call5_v1 : Ref sig .tc := ⟨.hbm, 134, rfl⟩
abbrev main_call5_v2 : Ref sig .tc := ⟨.hbm, 135, rfl⟩
abbrev main_call5_v3 : Ref sig .tc := ⟨.hbm, 136, rfl⟩
abbrev main_call5_v4 : Ref sig .tc := ⟨.hbm, 137, rfl⟩
abbrev main_call5_v5 : Ref sig .tc := ⟨.hbm, 138, rfl⟩
abbrev main_call5_v6 : Ref sig .tc := ⟨.hbm, 139, rfl⟩
abbrev main_call5_v7 : Ref sig .tc := ⟨.hbm, 140, rfl⟩
abbrev main_call5_v8 : Ref sig .tc := ⟨.hbm, 141, rfl⟩
abbrev main_call5_c : Ref sig .tc := ⟨.hbm, 142, rfl⟩
abbrev main_call5_v9 : Ref sig .tc := ⟨.hbm, 143, rfl⟩
abbrev main_call5_v10 : Ref sig .tc := ⟨.hbm, 144, rfl⟩
abbrev main_call5_v11 : Ref sig .tc := ⟨.hbm, 145, rfl⟩
abbrev main_call5_c_0 : Ref sig .tc := ⟨.hbm, 146, rfl⟩
abbrev main_call5_v12 : Ref sig .tc := ⟨.hbm, 147, rfl⟩
abbrev main_call5_v13 : Ref sig .tc := ⟨.hbm, 148, rfl⟩
abbrev main_v59 : Ref sig .tc := ⟨.hbm, 149, rfl⟩
abbrev main_c_6 : Ref sig .tc := ⟨.hbm, 150, rfl⟩
abbrev main_v60 : Ref sig .tc := ⟨.hbm, 151, rfl⟩
abbrev main_v61 : Ref sig .tc := ⟨.hbm, 152, rfl⟩
abbrev main_v62 : Ref sig .tc := ⟨.hbm, 153, rfl⟩
abbrev main_v63 : Ref sig .tc := ⟨.hbm, 154, rfl⟩
abbrev main_v64 : Ref sig .tc := ⟨.hbm, 155, rfl⟩
abbrev main_v65 : Ref sig .tc := ⟨.hbm, 156, rfl⟩
abbrev main_v66 : Ref sig .tc := ⟨.hbm, 157, rfl⟩
abbrev main_v67 : Ref sig .tc := ⟨.hbm, 158, rfl⟩
abbrev main_v68 : Ref sig .tc := ⟨.hbm, 159, rfl⟩
abbrev main_v69 : Ref sig .tc := ⟨.hbm, 160, rfl⟩
abbrev main_c_7 : Ref sig .tc := ⟨.hbm, 161, rfl⟩
abbrev main_call6_v0 : Ref sig .tc := ⟨.hbm, 162, rfl⟩
abbrev main_call6_v1 : Ref sig .tc := ⟨.hbm, 163, rfl⟩
abbrev main_call6_v2 : Ref sig .tc := ⟨.hbm, 164, rfl⟩
abbrev main_call6_v3 : Ref sig .tc := ⟨.hbm, 165, rfl⟩
abbrev main_call6_v4 : Ref sig .tc := ⟨.hbm, 166, rfl⟩
abbrev main_call6_v5 : Ref sig .tc := ⟨.hbm, 167, rfl⟩
abbrev main_call6_v6 : Ref sig .tc := ⟨.hbm, 168, rfl⟩
abbrev main_call6_v7 : Ref sig .tc := ⟨.hbm, 169, rfl⟩
abbrev main_call6_v8 : Ref sig .tc := ⟨.hbm, 170, rfl⟩
abbrev main_call6_c : Ref sig .tc := ⟨.hbm, 171, rfl⟩
abbrev main_call6_v9 : Ref sig .tc := ⟨.hbm, 172, rfl⟩
abbrev main_call6_v10 : Ref sig .tc := ⟨.hbm, 173, rfl⟩
abbrev main_call6_v11 : Ref sig .tc := ⟨.hbm, 174, rfl⟩
abbrev main_call6_c_0 : Ref sig .tc := ⟨.hbm, 175, rfl⟩
abbrev main_call6_v12 : Ref sig .tc := ⟨.hbm, 176, rfl⟩
abbrev main_call6_v13 : Ref sig .tc := ⟨.hbm, 177, rfl⟩
abbrev main_v70 : Ref sig .tc := ⟨.hbm, 178, rfl⟩
abbrev main_c_8 : Ref sig .tc := ⟨.hbm, 179, rfl⟩
abbrev main_v71 : Ref sig .tc := ⟨.hbm, 180, rfl⟩
abbrev main_v72 : Ref sig .tc := ⟨.hbm, 181, rfl⟩
abbrev main_v73 : Ref sig .tc := ⟨.hbm, 182, rfl⟩
abbrev main_v74 : Ref sig .tc := ⟨.hbm, 183, rfl⟩
abbrev main_v75 : Ref sig .tc := ⟨.hbm, 184, rfl⟩
abbrev main_v76 : Ref sig .tc := ⟨.hbm, 185, rfl⟩
abbrev main_v77 : Ref sig .tc := ⟨.hbm, 186, rfl⟩
abbrev main_v78 : Ref sig .tc := ⟨.hbm, 187, rfl⟩
abbrev main_v79 : Ref sig .tc := ⟨.hbm, 188, rfl⟩
abbrev main_v80 : Ref sig .tc := ⟨.hbm, 189, rfl⟩
abbrev main_v81 : Ref sig .tc := ⟨.hbm, 190, rfl⟩
abbrev main_v82 : Ref sig .tc := ⟨.hbm, 191, rfl⟩
abbrev main_v83 : Ref sig .tc := ⟨.hbm, 192, rfl⟩
abbrev main_v84 : Ref sig .tc := ⟨.hbm, 193, rfl⟩
abbrev main_v85 : Ref sig .tc := ⟨.hbm, 194, rfl⟩
abbrev main_v86 : Ref sig .tc := ⟨.hbm, 195, rfl⟩
abbrev main_v87 : Ref sig .tc := ⟨.hbm, 196, rfl⟩
abbrev main_v88 : Ref sig .tc := ⟨.hbm, 197, rfl⟩
abbrev main_v89_0 : Ref sig .tc := ⟨.hbm, 198, rfl⟩
abbrev main_v89_1 : Ref sig .tc := ⟨.hbm, 199, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem20_1 : DmaSem sig := 25
abbrev cc0_sem21_0 : DmaSem sig := 26
abbrev cc0_sem21_1 : DmaSem sig := 27

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_21 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Inproj.lean ====
abbrev S8x4096x1024 : Shape := ⟨3, ![8, 4096, 1024]⟩
abbrev S1x1024 : Shape := ⟨2, ![1, 1024]⟩
abbrev S1x1024x3600 : Shape := ⟨3, ![1, 1024, 3600]⟩
abbrev S32768x1024 : Shape := ⟨2, ![32768, 1024]⟩
abbrev S1024x3600 : Shape := ⟨2, ![1024, 3600]⟩
abbrev S1024x1536 : Shape := ⟨2, ![1024, 1536]⟩
abbrev S1024x2048 : Shape := ⟨2, ![1024, 2048]⟩
abbrev S1024x3584 : Shape := ⟨2, ![1024, 3584]⟩
abbrev S1024x8 : Shape := ⟨2, ![1024, 8]⟩
abbrev S1024x16 : Shape := ⟨2, ![1024, 16]⟩
abbrev S_ : Shape := ⟨0, ![]⟩
abbrev S1024x128 : Shape := ⟨2, ![1024, 128]⟩
abbrev S1024 : Shape := ⟨1, ![1024]⟩
abbrev S128x1024 : Shape := ⟨2, ![128, 1024]⟩
abbrev S32768x3584 : Shape := ⟨2, ![32768, 3584]⟩
abbrev S32768x128 : Shape := ⟨2, ![32768, 128]⟩
abbrev S128x32768 : Shape := ⟨2, ![128, 32768]⟩
abbrev S512x1024 : Shape := ⟨2, ![512, 1024]⟩
abbrev S512x3584 : Shape := ⟨2, ![512, 3584]⟩
abbrev S512x128 : Shape := ⟨2, ![512, 128]⟩
abbrev S128x512 : Shape := ⟨2, ![128, 512]⟩
abbrev S512 : Shape := ⟨1, ![512]⟩
abbrev S512x1 : Shape := ⟨2, ![512, 1]⟩

abbrev nBuf : Space → Nat
  | .hbm => 22
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x3600, .f32⟩
  | .hbm, ⟨3, _⟩ => ⟨S32768x1024, .f32⟩
  | .hbm, ⟨4, _⟩ => ⟨S1024x3600, .f32⟩
  | .hbm, ⟨5, _⟩ => ⟨S1024x1536, .f32⟩
  | .hbm, ⟨6, _⟩ => ⟨S1024x2048, .f32⟩
  | .hbm, ⟨7, _⟩ => ⟨S1024x3584, .f32⟩
  | .hbm, ⟨8, _⟩ => ⟨S1024x3584, .bf16⟩
  | .hbm, ⟨9, _⟩ => ⟨S1024x8, .f32⟩
  | .hbm, ⟨10, _⟩ => ⟨S1024x8, .f32⟩
  | .hbm, ⟨11, _⟩ => ⟨S1024x16, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S1024, .f32⟩
  | .hbm, ⟨17, _⟩ => ⟨S1x1024, .f32⟩
  | .hbm, ⟨18, _⟩ => ⟨S128x1024, .bf16⟩
  | .hbm, ⟨19, _⟩ => ⟨S32768x3584, .f32⟩
  | .hbm, ⟨20, _⟩ => ⟨S32768x128, .f32⟩
  | .hbm, ⟨21, _⟩ => ⟨S128x32768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S1024x128, .bf16⟩
  | .local _ .vmem, ⟨5, _⟩ => ⟨S128x1024, .bf16⟩
  | .local _ .vmem, ⟨6, _⟩ => ⟨S512x3584, .f32⟩
  | .local _ .vmem, ⟨7, _⟩ => ⟨S512x3584, .f32⟩
  | .local _ .vmem, ⟨8, _⟩ => ⟨S512x128, .f32⟩
  | .local _ .vmem, ⟨9, _⟩ => ⟨S512x128, .f32⟩
  | .local _ .vmem, ⟨10, _⟩ => ⟨S128x512, .f32⟩
  | .local _ .vmem, ⟨11, _⟩ => ⟨S128x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v14_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InprojRefIdeal.lean ====
abbrev S8x4096x1024 : Shape := ⟨3, ![8, 4096, 1024]⟩
abbrev S1x1024 : Shape := ⟨2, ![1, 1024]⟩
abbrev S1x1024x3600 : Shape := ⟨3, ![1, 1024, 3600]⟩
abbrev S_ : Shape := ⟨0, ![]⟩
abbrev S8x4096 : Shape := ⟨2, ![8, 4096]⟩
abbrev S8x4096x1 : Shape := ⟨3, ![8, 4096, 1]⟩
abbrev S1024 : Shape := ⟨1, ![1024]⟩
abbrev S1x1x1024 : Shape := ⟨3, ![1, 1, 1024]⟩
abbrev S1024x3600 : Shape := ⟨2, ![1024, 3600]⟩
abbrev S8x4096x3600 : Shape := ⟨3, ![8, 4096, 3600]⟩
abbrev S32768x3600 : Shape := ⟨2, ![32768, 3600]⟩
abbrev S32768x1536 : Shape := ⟨2, ![32768, 1536]⟩
abbrev S32768x2048 : Shape := ⟨2, ![32768, 2048]⟩
abbrev S32768x3584 : Shape := ⟨2, ![32768, 3584]⟩
abbrev S32768x8 : Shape := ⟨2, ![32768, 8]⟩
abbrev S32768x112 : Shape := ⟨2, ![32768, 112]⟩
abbrev S32768x128 : Shape := ⟨2, ![32768, 128]⟩
abbrev S128x32768 : Shape := ⟨2, ![128, 32768]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x3600, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S1024x3600, .f32⟩
  | .hbm, ⟨21, _⟩ => ⟨S8x4096x3600, .f32⟩
  | .hbm, ⟨22, _⟩ => ⟨S32768x3600, .f32⟩
  | .hbm, ⟨23, _⟩ => ⟨S32768x1536, .f32⟩
  | .hbm, ⟨24, _⟩ => ⟨S32768x2048, .f32⟩
  | .hbm, ⟨25, _⟩ => ⟨S32768x3584, .f32⟩
  | .hbm, ⟨26, _⟩ => ⟨S32768x8, .f32⟩
  | .hbm, ⟨27, _⟩ => ⟨S32768x8, .f32⟩
  | .hbm, ⟨28, _⟩ => ⟨S_, .f32⟩
  | .hbm, ⟨29, _⟩ => ⟨S32768x112, .f32⟩
  | .hbm, ⟨30, _⟩ => ⟨S32768x128, .f32⟩
  | .hbm, ⟨31, _⟩ => ⟨S128x32768, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Route.lean ====
abbrev S32768x1024 : Shape := ⟨2, ![32768, 1024]⟩
abbrev S1x1024x2048 : Shape := ⟨3, ![1, 1024, 2048]⟩
abbrev S1x2x128x128 : Shape := ⟨4, ![1, 2, 128, 128]⟩
abbrev S1024x2048 : Shape := ⟨2, ![1024, 2048]⟩
abbrev S2048x1024 : Shape := ⟨2, ![2048, 1024]⟩
abbrev S2x128x128 : Shape := ⟨3, ![2, 128, 128]⟩
abbrev S8x128x32768 : Shape := ⟨3, ![8, 128, 32768]⟩
abbrev S512x1024 : Shape := ⟨2, ![512, 1024]⟩
abbrev S8x128x512 : Shape := ⟨3, ![8, 128, 512]⟩
abbrev S2048x512 : Shape := ⟨2, ![2048, 512]⟩
abbrev S8x128 : Shape := ⟨2, ![8, 128]⟩
abbrev S1x128x128 : Shape := ⟨3, ![1, 128, 128]⟩
abbrev S128x128 : Shape := ⟨2, ![128, 128]⟩
abbrev S128x512 : Shape := ⟨2, ![128, 512]⟩
abbrev S128 : Shape := ⟨1, ![128]⟩
abbrev S1x128 : Shape := ⟨2, ![1, 128]⟩
abbrev S16x128 : Shape := ⟨2, ![16, 128]⟩
abbrev S80x128 : Shape := ⟨2, ![80, 128]⟩

abbrev nBuf : Space → Nat
  | .hbm => 12
  | .vmem => 13
  | .smem => 0
  | _ => 0

abbrev bufTy : (tb : Table) → Fin (tcTables nBuf tb) → BufTy
  | .hbm, ⟨0, _⟩ => ⟨S32768x1024, .bf16⟩
  | .hbm, ⟨1, _⟩ => ⟨S1x1024x2048, .f32⟩
  | .hbm, ⟨2, _⟩ => ⟨S1x2x128x128, .f32⟩
  | .hbm, ⟨3, _⟩ => ⟨S1024x2048, .f32⟩
  | .hbm, ⟨4, _⟩ => ⟨S2048x1024, .f32⟩
  | .hbm, ⟨5, _⟩ => ⟨S2048x1024, .bf16⟩
  | .hbm, ⟨6, _⟩ => ⟨S2x128x128, .f32⟩
  | .hbm, ⟨7, _⟩ => ⟨S2x128x128, .bf16⟩
  | .hbm, ⟨8, _⟩ => ⟨S8x128x32768, .f32⟩
  | .hbm, ⟨9, _⟩ => ⟨S8x128x32768, .f32⟩
  | .hbm, ⟨10, _⟩ => ⟨S8x128x32768, .bf16⟩
  | .hbm, ⟨11, _⟩ => ⟨S8x128x32768, .bf16⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S2x128x128, .bf16⟩
  | .local _ .vmem, ⟨4, _⟩ => ⟨S8x128x512, .f32⟩
  | .local _ .vmem, ⟨5, _⟩ => ⟨S8x128x512, .f32⟩
  | .local _ .vmem, ⟨6, _⟩ => ⟨S8x128x512, .f32⟩
  | .local _ .vmem, ⟨7, _⟩ => ⟨S8x128x512, .f32⟩
  | .local _ .vmem, ⟨8, _⟩ => ⟨S8x128x512, .bf16⟩
  | .local _ .vmem, ⟨9, _⟩ => ⟨S8x128x512, .bf16⟩
  | .local _ .vmem, ⟨10, _⟩ => ⟨S8x128x512, .bf16⟩
  | .local _ .vmem, ⟨11, _⟩ => ⟨S8x128x512, .bf16⟩
  | .local _ .vmem, ⟨12, _⟩ => ⟨S2048x512, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v9 : BitVec 32 := Scalar.muli arg9 c256_i32
  v9
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32 : BitVec 32 := 256#32
  let v9 : BitVec 32 := Scalar.muli arg9 c256_i32
  let v10 : BitVec 32 := v9
  let v13 : Index := Scalar.indexCast v10
  let c0_9 : Index := 0#32
  ![v13.toNat, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c256_i32 : BitVec 32 := 256#32
  let v9 : BitVec 32 := Scalar.muli arg9 c256_i32
  let v10 : BitVec 32 := v9
  let c128_i32 : BitVec 32 := 128#32
  let v19 : BitVec 32 := Scalar.addi v10 c128_i32
  let v20 : Index := Scalar.indexCast v19
  let c0_13 : Index := 0#32
  ![v20.toNat, 0]
def k0_off3 (k0_t1 : Fin k0_t1_loop.trips) : Fin 3 → Nat :=
  let c0_i32 : BitVec 32 := 0#32
  let c1_i32 : BitVec 32 := 1#32
  let arg9 : BitVec 32 := Scf.iv c0_i32 c1_i32 k0_t1
  let v1228 : Index := Scalar.indexCast arg9
  let c0_110 : Index := 0#32
  let c0_111 : Index := 0#32
  ![v1228.toNat, 0, 0]
def k0_off4 (k0_t1 : Fin k0_t1_loop.trips) : Fin 3 → Nat :=
  let c0_i32 : BitVec 32 := 0#32
  let c1_i32 : BitVec 32 := 1#32
  let arg9 : BitVec 32 := Scf.iv c0_i32 c1_i32 k0_t1
  let v2450 : Index := Scalar.indexCast arg9
  let c0_217 : Index := 0#32
  let c128 : Index := 128#32
  ![v2450.toNat, 0, 128]
def k0_off5 (k0_t1 : Fin k0_t1_loop.trips) : Fin 3 → Nat :=
  let c0_i32 : BitVec 32 := 0#32
  let c1_i32 : BitVec 32 := 1#32
  let arg9 : BitVec 32 := Scf.iv c0_i32 c1_i32 k0_t1
  let v3672 : Index := Scalar.indexCast arg9
  let c0_323 : Index := 0#32
  let c256 : Index := 256#32
  ![v3672.toNat, 0, 256]
def k0_off6 (k0_t1 : Fin k0_t1_loop.trips) : Fin 3 → Nat :=
  let c0_i32 : BitVec 32 := 0#32
  let c1_i32 : BitVec 32 := 1#32
  let arg9 : BitVec 32 := Scf.iv c0_i32 c1_i32 k0_t1
  let v4894 : Index := Scalar.indexCast arg9
  let c0_429 : Index := 0#32
  let c384 : Index := 384#32
  ![v4894.toNat, 0, 384]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RouteRefIdeal.lean ====
abbrev S32768x1024 : Shape := ⟨2, ![32768, 1024]⟩
abbrev S1x1024x2048 : Shape := ⟨3, ![1, 1024, 2048]⟩
abbrev S1x2x128x128 : Shape := ⟨4, ![1, 2, 128, 128]⟩
abbrev S1024x2048 : Shape := ⟨2, ![1024, 2048]⟩
abbrev S32768x2048 : Shape := ⟨2, ![32768, 2048]⟩
abbrev S32768x8x2x128 : Shape := ⟨4, ![32768, 8, 2, 128]⟩
abbrev S32768x8x1x128 : Shape := ⟨4, ![32768, 8, 1, 128]⟩
abbrev S32768x8x128 : Shape := ⟨3, ![32768, 8, 128]⟩
abbrev S1x1x128x128 : Shape := ⟨4, ![1, 1, 128, 128]⟩
abbrev S128x128 : Shape := ⟨2, ![128, 128]⟩
abbrev S128x32768x8 : Shape := ⟨3, ![128, 32768, 8]⟩
abbrev S8x32768x128 : Shape := ⟨3, ![8, 32768, 128]⟩
abbrev S_ : Shape := ⟨0, ![]⟩
abbrev S8x32768 : Shape := ⟨2, ![8, 32768]⟩
abbrev S8x32768x1 : Shape := ⟨3, ![8, 32768, 1]⟩
abbrev S8x32768x1x128 : Shape := ⟨4, ![8, 32768, 1, 128]⟩
abbrev S8x32768x128x1 : Shape := ⟨4, ![8, 32768, 128, 1]⟩
abbrev S8x32768x128x128 : Shape := ⟨4, ![8, 32768, 128, 128]⟩
abbrev S8x128x32768 : Shape := ⟨3, ![8, 128, 32768]⟩

abbrev nBuf : Space → Nat
  | .hbm => 39
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1x1024x2048, .f32⟩
  | .hbm, ⟨2, _⟩ => ⟨S1x2x128x128, .f32⟩
  | .hbm, ⟨3, _⟩ => ⟨S32768x1024, .f32⟩
  | .hbm, ⟨4, _⟩ => ⟨S1024x2048, .f32⟩
  | .hbm, ⟨5, _⟩ => ⟨S32768x2048, .f32⟩
  | .hbm, ⟨6, _⟩ => ⟨S32768x8x2x128, .f32⟩
  | .hbm, ⟨7, _⟩ => ⟨S32768x8x1x128, .f32⟩
  | .hbm, ⟨8, _⟩ => ⟨S32768x8x128, .f32⟩
  | .hbm, ⟨9, _⟩ => ⟨S1x1x128x128, .f32⟩
  | .hbm, ⟨10, _⟩ => ⟨S128x128, .f32⟩
  | .hbm, ⟨11, _⟩ => ⟨S128x32768x8, .f32⟩
  | .hbm, ⟨12, _⟩ => ⟨S8x32768x128, .f32⟩
  | .hbm, ⟨13, _⟩ => ⟨S_, .f32⟩
  | .hbm, ⟨14, _⟩ => ⟨S8x32768, .f32⟩
  | .hbm, ⟨15, _⟩ => ⟨S8x32768x1, .f32⟩
  | .hbm, ⟨16, _⟩ => ⟨S8x32768x128, .f32⟩
  | .hbm, ⟨17, _⟩ => ⟨S8x32768x128, .f32⟩
  | .hbm, ⟨18, _⟩ => ⟨S8x32768x128, .f32⟩
  | .hbm, ⟨19, _⟩ => ⟨S8x32768x1x128, .f32⟩
  | .hbm, ⟨20, _⟩ => ⟨S8x32768x128x1, .f32⟩
  | .hbm, ⟨21, _⟩ => ⟨S8x32768x128x128, .f32⟩
  | .hbm, ⟨22, _⟩ => ⟨S8x32768x128x128, .f32⟩
  | .hbm, ⟨23, _⟩ => ⟨S8x32768x128x128, .i1⟩
  | .hbm, ⟨24, _⟩ => ⟨S_, .f32⟩
  | .hbm, ⟨25, _⟩ => ⟨S_, .f32⟩
  | .hbm, ⟨26, _⟩ => ⟨S8x32768x128x128, .f32⟩
  | .hbm, ⟨27, _⟩ => ⟨S8x32768x128x128, .f32⟩
  | .hbm, ⟨28, _⟩ => ⟨S8x32768x128x128, .f32⟩
  | .hbm, ⟨29, _⟩ => ⟨S8x32768x128x128, .f32⟩
  | .hbm, ⟨30, _⟩ => ⟨S_, .f32⟩
  | .hbm, ⟨31, _⟩ => ⟨S8x32768x128, .f32⟩
  | .hbm, ⟨32, _⟩ => ⟨S8x128x32768, .f32⟩
  | .hbm, ⟨33, _⟩ => ⟨S8x128x32768, .bf16⟩
  | .hbm, ⟨34, _⟩ => ⟨S_, .f32⟩
  | .hbm, ⟨35, _⟩ => ⟨S8x32768x128, .f32⟩
  | .hbm, ⟨36, _⟩ => ⟨S8x32768x128, .f32⟩
  | .hbm, ⟨37, _⟩ => ⟨S8x128x32768, .f32⟩
  | .hbm, ⟨38, _⟩ => ⟨S8x128x32768, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Proof.InProj.lean ====
module

public import proofs.«01_k».proof.Proof.Gen.InprojIdeal.Value
public import proofs.«01_k».proof.Proof.Gen.InprojRefIdeal.Run
public import Idealize.ShloMosaic.Lib.Pointwise
public import Idealize.ShloMosaic.Lib.Pipeline.ValueKit
public import Idealize.ShloMosaic.Lib.Claim
public import Idealize.ShloMosaic.Lib.Quiescent

/-!
# The input projection

Both programs end with the same three arrays: the rows of `x`, each divided by its root mean square and scaled,
times the projection's matrix, the columns sorted into the wide ones and the narrow ones, and the narrow ones once
more with the tokens last. `proj` is one entry of the product; `wide`, `narrow` and `narrowT` are the three arrays.
The kernel does it for 512 rows at a grid point, over columns sorted before the product; the reference sorts the
columns of the whole product.
-/

@[expose] public section

noncomputable section

namespace Cert.InProj

open Idealize.ShloMosaic Idealize.ShloMosaic.TcCoe Idealize.SL.Sem

/-- Two matrices with equal entries are equal. -/
theorem ext2 {p q : ℕ} {φ : FTy} {f g : FVec Ideal ⟨2, ![p, q]⟩ φ} (h : ∀ (a : Fin p) (b : Fin q), f (ix2 a b) = g (ix2 a b)) : f = g :=
  funext fun i => by rw [eq_ix2 i]; exact h _ _

/-! ## The three arrays -/

section arrays
variable (x : FVec Ideal ⟨3, ![8, 4096, 1024]⟩ .f32) (w : FVec Ideal ⟨2, ![1, 1024]⟩ .f32) (u : FVec Ideal ⟨3, ![1, 1024, 3600]⟩ .f32)

/-- Entry `j` of a row divided by the row's root mean square and scaled by `w`. -/
def nrm (r : Fin 1024 → EReal) (v : Fin 1024 → EReal) (j : Fin 1024) : EReal :=
  r j * Ideal.rsqrt (Ideal.div (∑ k, r k * r k) (Ideal.ofBits FTy.f32 1149239296#32) + Ideal.ofBits FTy.f32 897988541#32) * v j

/-- Row `i` of `x`, its two token axes read as one. -/
def row (i : Fin 32768) (j : Fin 1024) : EReal := x (ix3 ⟨i.val / 4096, by omega⟩ ⟨i.val % 4096, by omega⟩ j)

/-- Entry `(i, k)` of the normalised rows times the projection's matrix. -/
def proj (i : Fin 32768) (k : Fin 3600) : EReal := ∑ j, nrm (row x i) (fun j => w (ix2 0 j)) j * u (ix3 0 j k)

/-- The wide columns. -/
def wide : FVec Ideal ⟨2, ![32768, 3584]⟩ .f32 := fun i =>
  if h : (i 1).val < 1536 then proj x w u (i 0) ⟨(i 1).val, by omega⟩
  else proj x w u (i 0) ⟨1544 + ((i 1).val - 1536), by have := (i 1).isLt; simp at this; omega⟩

/-- Entry `(i, k)` of the narrow columns: eight, eight more, and zeros. -/
def narrowAt (i : Fin 32768) (k : Fin 128) : EReal :=
  if h : k.val < 8 then proj x w u i ⟨1536 + k.val, by omega⟩
  else if h' : k.val - 8 < 8 then proj x w u i ⟨3592 + (k.val - 8), by omega⟩ else 0

/-- The narrow columns, tokens first. -/
def narrow : FVec Ideal ⟨2, ![32768, 128]⟩ .f32 := fun i => narrowAt x w u (i 0) (i 1)
/-- The narrow columns, tokens last. -/
def narrowT : FVec Ideal ⟨2, ![128, 32768]⟩ .f32 := fun i => narrowAt x w u (i 1) (i 0)
end arrays

/-! ## The reference -/

namespace R
open Cert.InprojRefIdeal Cert.InprojRefIdeal.Gen
variable (x : FVec Ideal S8x4096x1024 .f32) (w : FVec Ideal S1x1024 .f32) (u : FVec Ideal S1x1024x3600 .f32)

/-- The reference's product of the normalised rows by the matrix, as its operations. -/
def prod : FVec Ideal S32768x3600 .f32 :=
  shapeCast _ (Host.dotGeneral dot_S8x4096x1024_S1024x3600_S8x4096x3600_2_0_01_1_n_n none (mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 (shapeCast _ w shapeCasts_S1x1024_S1024)))) (shapeCast _ u shapeCasts_S1x1024x3600_S1024x3600)) shapeCasts_S8x4096x3600_S32768x3600

theorem prod_apply (i : Fin 32768) (k : Fin 3600) : prod x w u (ix2 i k) = proj x w u i k := by
  pointwise [prod]
  rfl

theorem wide_eq : concatenate S32768x3584 1 [⟨S32768x1536, (extractStridedSlice S32768x1536 ![0, 0] (prod x w u) slices_S32768x3600_S32768x1536_0_0)⟩, ⟨S32768x2048, (extractStridedSlice S32768x2048 ![0, 1544] (prod x w u) slices_S32768x3600_S32768x2048_0_1544)⟩] concatenates_S32768x1536_S32768x2048_S32768x3584_d1 = wide x w u := by
  refine ext2 fun a b => ?_
  pointwise
  simp only [prod_apply]
  rfl

theorem narrow_eq : concatenate S32768x128 1 [⟨S32768x8, (extractStridedSlice S32768x8 ![0, 1536] (prod x w u) slices_S32768x3600_S32768x8_0_1536)⟩, ⟨S32768x8, (extractStridedSlice S32768x8 ![0, 3592] (prod x w u) slices_S32768x3600_S32768x8_0_3592)⟩, ⟨S32768x112, (broadcastInDim S32768x112 ![] bcast_S_S32768x112 (constant S_ .f32 0x00000000#32))⟩] concatenates_S32768x8_S32768x8_S32768x112_S32768x128_d1 = narrow x w u := by
  refine ext2 fun a b => ?_
  pointwise
  simp only [prod_apply]
  rfl

theorem narrowT_eq (h) : transpose S128x32768 [1, 0] (narrow x w u) h = narrowT x w u := by
  refine ext2 fun a b => ?_
  pointwise
  rfl
end R

/-! ## The kernel -/

namespace K
open Cert.InprojIdeal Cert.InprojIdeal.Gen
variable (m : (ℓ : Loc nD τ sig) → Buf (Elt Ideal) ℓ) (c : Dev nD)

/-- Column `b` of the wide matrix, as a column of the whole one. -/
def wcol (b : Fin 3584) : Fin 3600 := if b.val < 1536 then ⟨b.val, by omega⟩ else ⟨1544 + (b.val - 1536), by omega⟩

/-- Entry `(j, b)` of the narrow matrix. -/
def nmat (u : FVec Ideal S1x1024x3600 .f32) (j : Fin 1024) (b : Fin 128) : EReal :=
  if h : b.val < 8 then u (ix3 0 j ⟨1536 + b.val, by omega⟩)
  else if h' : b.val - 8 < 8 then u (ix3 0 j ⟨3592 + (b.val - 8), by omega⟩) else 0

/-- The wide matrix as the kernel's host code builds it. -/
abbrev wbig (u : FVec Ideal S1x1024x3600 .f32) : FVec Ideal S1024x3584 .bf16 :=
  truncf .bf16 (concatenate S1024x3584 1
    [⟨S1024x1536, extractStridedSlice S1024x1536 ![0, 0] (shapeCast S1024x3600 u shapeCasts_S1x1024x3600_S1024x3600) slices_S1024x3600_S1024x1536_0_0⟩,
      ⟨S1024x2048, extractStridedSlice S1024x2048 ![0, 1544] (shapeCast S1024x3600 u shapeCasts_S1x1024x3600_S1024x3600) slices_S1024x3600_S1024x2048_0_1544⟩]
    concatenates_S1024x1536_S1024x2048_S1024x3584_d1) bitsLt_bf16_f32

/-- The narrow matrix as the kernel's host code builds it. -/
abbrev wsm (u : FVec Ideal S1x1024x3600 .f32) : FVec Ideal S1024x128 .bf16 :=
  truncf .bf16 (pad S1024x128 ![0, 0] ![0, 112] ![0, 0]
    (concatenate S1024x16 1
      [⟨S1024x8, extractStridedSlice S1024x8 ![0, 1536] (shapeCast S1024x3600 u shapeCasts_S1x1024x3600_S1024x3600) slices_S1024x3600_S1024x8_0_1536⟩,
        ⟨S1024x8, extractStridedSlice S1024x8 ![0, 3592] (shapeCast S1024x3600 u shapeCasts_S1x1024x3600_S1024x3600) slices_S1024x3600_S1024x8_0_3592⟩]
      concatenates_S1024x8_S1024x8_S1024x16_d1)
    (sitofp .f32 (constantI S_ 32 0#32)) pads_S1024x16_S1024x128_000_01120 h_S_) bitsLt_bf16_f32

theorem cast_at (x : FVec Ideal S8x4096x1024 .f32) (i : Fin 32768) (j : Fin 1024) :
    shapeCast S32768x1024 x shapeCasts_S8x4096x1024_S32768x1024 (ix2 i j) = row x i j := by
  pointwise
  rfl

theorem scale_at (w : FVec Ideal S1x1024 .f32) (j : Fin 1024) :
    broadcastInDim S1x1024 ![1] bcast_S1024_S1x1024_1 (shapeCast S1024 w shapeCasts_S1x1024_S1024) (ix2 0 j) = w (ix2 0 j) := by
  pointwise

theorem wbig_at (u : FVec Ideal S1x1024x3600 .f32) (j : Fin 1024) (b : Fin 3584) : wbig u (ix2 j b) = u (ix3 0 j (wcol b)) := by
  pointwise
  unfold wcol
  split_ifs <;> rfl

theorem wsm_at (u : FVec Ideal S1x1024x3600 .f32) (j : Fin 1024) (b : Fin 128) : wsm u (ix2 j b) = nmat u j b := by
  pointwise
  simp only [nmat, show (b.val - 8 < 8) = (b.val < 16) from propext (by omega)]
  have z : (FloatOps.sitofp (F := Ideal) FTy.f32 (0#32) : EReal) = 0 := by simp [FloatOps.sitofp]
  split_ifs <;> first | omega | rfl | exact z

theorem wsmt_at (u : FVec Ideal S1x1024x3600 .f32) (j : Fin 1024) (b : Fin 128) :
    transpose S128x1024 [1, 0] (wsm u) transposes_S1024x128_S128x1024_1_0 (ix2 b j) = nmat u j b := by
  rw [← wsm_at]
  generalize wsm u = f
  pointwise

theorem V_x : V m c main_v0 = shapeCast S32768x1024 (m ((c : Thread nD τ).loc main_arg0)) shapeCasts_S8x4096x1024_S32768x1024 := by
  simp only [V, hostOps0, hostOps0_1, hostOps0_2, List.flatten_cons, List.flatten_nil, List.append_nil, List.cons_append, List.nil_append]
  after_results
  rfl

theorem V_nw : V m c main_v12 = broadcastInDim S1x1024 ![1] bcast_S1024_S1x1024_1 (shapeCast S1024 (m ((c : Thread nD τ).loc main_arg1)) shapeCasts_S1x1024_S1024) := by
  simp only [V, hostOps0, hostOps0_1, hostOps0_2, List.flatten_cons, List.flatten_nil, List.append_nil, List.cons_append, List.nil_append]
  after_results
  rfl

theorem V_wbig : V m c main_v5 = wbig (m ((c : Thread nD τ).loc main_arg2)) := by
  simp only [V, hostOps0, hostOps0_1, hostOps0_2, List.flatten_cons, List.flatten_nil, List.append_nil, List.cons_append, List.nil_append]
  after_results
  rfl

theorem V_wsm : V m c main_v10 = wsm (m ((c : Thread nD τ).loc main_arg2)) := by
  simp only [V, hostOps0, hostOps0_1, hostOps0_2, List.flatten_cons, List.flatten_nil, List.append_nil, List.cons_append, List.nil_append]
  after_results
  rfl

theorem V_wsmt : V m c main_v13 = transpose S128x1024 [1, 0] (wsm (m ((c : Thread nD τ).loc main_arg2))) transposes_S1024x128_S128x1024_1_0 := by
  simp only [V, hostOps0, hostOps0_1, hostOps0_2, List.flatten_cons, List.flatten_nil, List.append_nil, List.cons_append, List.nil_append]
  after_results
  rfl

/-! One entry of each product, of any blocks. -/

section pay
variable (X : FVec Ideal S512x1024 .f32) (W : FVec Ideal S1x1024 .f32) {a : Fin 512} {r v q : Fin 1024 → EReal}
  (hX : ∀ j, X (ix2 a j) = r j) (hW : ∀ j, W (ix2 0 j) = v j)
include hX hW

theorem pay2_at (U : FVec Ideal S1024x3584 .bf16) {b : Fin 3584} (hU : ∀ j, U (ix2 j b) = q j) :
    k0_pay2 (F := Ideal) X W U (ix2 a b) = ∑ j, nrm r v j * q j := by
  pointwise [k0_pay2, k0_pay1]
  simp only [hX, hW, hU]
  rfl

theorem pay3_at (U : FVec Ideal S1024x128 .bf16) {b : Fin 128} (hU : ∀ j, U (ix2 j b) = q j) :
    k0_pay3 (F := Ideal) X W U (ix2 a b) = ∑ j, nrm r v j * q j := by
  pointwise [k0_pay3, k0_pay1]
  simp only [hX, hW, hU]
  rfl

theorem pay4_at (U : FVec Ideal S128x1024 .bf16) {b : Fin 128} (hU : ∀ j, U (ix2 b j) = q j) :
    k0_pay4 (F := Ideal) X W U (ix2 b a) = ∑ j, nrm r v j * q j := by
  pointwise [k0_pay4, k0_pay1]
  simp only [hX, hW, hU]
  exact Finset.sum_congr rfl fun j _ => mul_comm _ _
end pay

/-- Each window's block index at a grid point. -/
theorem idx : ∀ t : Fin cfg0.N, win0_0.index t = ![t.val, 0] ∧ win0_1.index t = ![0, 0] ∧ win0_2.index t = ![0, 0]
    ∧ win0_3.index t = ![0, 0] ∧ win0_4.index t = ![0, 0]
    ∧ win0_5.index t = ![t.val, 0] ∧ win0_6.index t = ![t.val, 0] ∧ win0_7.index t = ![0, t.val] :=
  (by decide +kernel : ∀ t : Fin grid0.N, _)

/-- Row `a` of grid point `t`, as a row of the array. -/
def tok (t : Fin cfg0.N) (a : Fin 512) : Fin 32768 := ⟨t.val * 512 + a.val, by
  have h : t.val < 64 := lt_of_lt_of_le t.isLt (by decide)
  omega⟩

theorem emb0 (t : Fin cfg0.N) (a : Fin 512) (j : Fin 1024) : ((View.whole main_v0).slice (win0_0.rect t)).emb (ix2 a j) = ix2 (tok t a) j := by
  obtain ⟨e, -⟩ := idx t
  funext k
  fin_cases k <;> apply Fin.ext <;> refine (Pipeline.Window.rect_emb_val _ t _ _).trans ?_ <;> simp [e, tok]
theorem emb1 (t : Fin cfg0.N) (j : Fin 1024) : ((View.whole main_v12).slice (win0_1.rect t)).emb (ix2 0 j) = ix2 0 j := by
  obtain ⟨-, e, -⟩ := idx t
  funext k
  fin_cases k <;> apply Fin.ext <;> refine (Pipeline.Window.rect_emb_val _ t _ _).trans ?_ <;> simp [e, tok]
theorem emb2 (t : Fin cfg0.N) (j : Fin 1024) (b : Fin 3584) : ((View.whole main_v5).slice (win0_2.rect t)).emb (ix2 j b) = ix2 j b := by
  obtain ⟨-, -, e, -⟩ := idx t
  funext k
  fin_cases k <;> apply Fin.ext <;> refine (Pipeline.Window.rect_emb_val _ t _ _).trans ?_ <;> simp [e, tok]
theorem emb3 (t : Fin cfg0.N) (j : Fin 1024) (b : Fin 128) : ((View.whole main_v10).slice (win0_3.rect t)).emb (ix2 j b) = ix2 j b := by
  obtain ⟨-, -, -, e, -⟩ := idx t
  funext k
  fin_cases k <;> apply Fin.ext <;> refine (Pipeline.Window.rect_emb_val _ t _ _).trans ?_ <;> simp [e, tok]
theorem emb4 (t : Fin cfg0.N) (j : Fin 1024) (b : Fin 128) : ((View.whole main_v13).slice (win0_4.rect t)).emb (ix2 b j) = ix2 b j := by
  obtain ⟨-, -, -, -, e, -⟩ := idx t
  funext k
  fin_cases k <;> apply Fin.ext <;> refine (Pipeline.Window.rect_emb_val _ t _ _).trans ?_ <;> simp [e, tok]
theorem emb5 (t : Fin cfg0.N) (a : Fin 512) (b : Fin 3584) : ((View.whole main_v14_0).slice (win0_5.rect t)).emb (ix2 a b) = ix2 (tok t a) b := by
  obtain ⟨-, -, -, -, -, e, -⟩ := idx t
  funext k
  fin_cases k <;> apply Fin.ext <;> refine (Pipeline.Window.rect_emb_val _ t _ _).trans ?_ <;> simp [e, tok]
theorem emb6 (t : Fin cfg0.N) (a : Fin 512) (b : Fin 128) : ((View.whole main_v14_1).slice (win0_6.rect t)).emb (ix2 a b) = ix2 (tok t a) b := by
  obtain ⟨-, -, -, -, -, -, e, -⟩ := idx t
  funext k
  fin_cases k <;> apply Fin.ext <;> refine (Pipeline.Window.rect_emb_val _ t _ _).trans ?_ <;> simp [e, tok]
theorem emb7 (t : Fin cfg0.N) (a : Fin 512) (b : Fin 128) : ((View.whole main_v14_2).slice (win0_7.rect t)).emb (ix2 b a) = ix2 b (tok t a) := by
  obtain ⟨-, -, -, -, -, -, -, e⟩ := idx t
  funext k
  fin_cases k <;> apply Fin.ext <;> refine (Pipeline.Window.rect_emb_val _ t _ _).trans ?_ <;> simp [e, tok]

theorem blk0 (t : Fin cfg0.N) (a : Fin 512) (j : Fin 1024) : iblk m c 0 t (ix2 a j) = row (m ((c : Thread nD τ).loc main_arg0)) (tok t a) j := by
  blk_simp [iblk]
  erw [emb0, V_x, cast_at]

theorem blk1 (t : Fin cfg0.N) (j : Fin 1024) : iblk m c 1 t (ix2 0 j) = (m ((c : Thread nD τ).loc main_arg1)) (ix2 0 j) := by
  blk_simp [iblk]
  erw [emb1, V_nw, scale_at]

theorem blk2 (t : Fin cfg0.N) (j : Fin 1024) (b : Fin 3584) : iblk m c 2 t (ix2 j b) = (m ((c : Thread nD τ).loc main_arg2)) (ix3 0 j (wcol b)) := by
  blk_simp [iblk]
  erw [emb2, V_wbig, wbig_at]

theorem blk3 (t : Fin cfg0.N) (j : Fin 1024) (b : Fin 128) : iblk m c 3 t (ix2 j b) = nmat (m ((c : Thread nD τ).loc main_arg2)) j b := by
  blk_simp [iblk]
  erw [emb3, V_wsm, wsm_at]

theorem blk4 (t : Fin cfg0.N) (j : Fin 1024) (b : Fin 128) : iblk m c 4 t (ix2 b j) = nmat (m ((c : Thread nD τ).loc main_arg2)) j b := by
  blk_simp [iblk]
  erw [emb4, V_wsmt, wsmt_at]

/-- A row of `x` times a column of the wide matrix is an entry of `wide`. -/
theorem wide_at (x : FVec Ideal S8x4096x1024 .f32) (w : FVec Ideal S1x1024 .f32) (u : FVec Ideal S1x1024x3600 .f32) (i : Fin 32768) (b : Fin 3584) :
    ∑ j, nrm (row x i) (fun j => w (ix2 0 j)) j * u (ix3 0 j (wcol b)) = wide x w u (ix2 i b) := by
  by_cases h : b.val < 1536
  · simp [wide, proj, wcol, h]
  · simp [wide, proj, wcol, h]

/-- A row of `x` times a column of the narrow matrix is an entry of `narrow`. -/
theorem narrow_at (x : FVec Ideal S8x4096x1024 .f32) (w : FVec Ideal S1x1024 .f32) (u : FVec Ideal S1x1024x3600 .f32) (i : Fin 32768) (b : Fin 128) :
    ∑ j, nrm (row x i) (fun j => w (ix2 0 j)) j * nmat u j b = narrowAt x w u i b := by
  by_cases h : b.val < 8
  · simp [narrowAt, proj, nmat, h]
  · by_cases h' : b.val - 8 < 8
    · simp only [narrowAt, proj, nmat, h, h', dif_pos, dif_neg, not_false_eq_true]
    · simp only [narrowAt, nmat, h, h', dif_neg, not_false_eq_true, mul_zero, Finset.sum_const_zero]

theorem final5 : (dats m 0 c).arrAt 5 cfg0.N = wide (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  rw [eq_ix2 y]
  generalize (y 0 : Fin 512) = a
  generalize (y 1 : Fin 3584) = b
  refine (pay2_at _ _ (blk0 m c t a) (blk1 m c t) _ fun j => blk2 m c t j b).trans ((wide_at _ _ _ _ _).trans ?_)
  exact congrArg _ (emb5 t a b).symm

theorem final6 : (dats m 0 c).arrAt 6 cfg0.N = narrow (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  frame_out
  rw [eq_ix2 y]
  generalize (y 0 : Fin 512) = a
  generalize (y 1 : Fin 128) = b
  refine (pay3_at _ _ (blk0 m c t a) (blk1 m c t) _ fun j => blk3 m c t j b).trans ((narrow_at _ _ _ _ _).trans ?_)
  exact congrArg (narrow (m ((c : Thread nD τ).loc main_arg0)) (m ((c : Thread nD τ).loc main_arg1)) (m ((c : Thread nD τ).loc main_arg2))) (emb6 t a b).symm

theorem final7 : (dats m 0 c).arrAt 7 cfg0.N = narrowT (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  frame_out
  rw [eq_ix2 y]
  generalize (y 0 : Fin 128) = b
  generalize (y 1 : Fin 512) = a
  refine (pay4_at _ _ (blk0 m c t a) (blk1 m c t) _ fun j => blk4 m c t j b).trans ((narrow_at _ _ _ _ _).trans ?_)
  exact congrArg (narrowT (m ((c : Thread nD τ).loc main_arg0)) (m ((c : Thread nD τ).loc main_arg1)) (m ((c : Thread nD τ).loc main_arg2))) (emb7 t a b).symm
end K

/-! ## The claims -/

/-- The reference leaves its arguments as they were and ends at rest. -/
theorem ref_frame (m : (ℓ : Loc Cert.InprojRefIdeal.nD Cert.InprojRefIdeal.τ Cert.InprojRefIdeal.sig) → Buf (Elt Ideal) ℓ)
    (g : Dev Cert.InprojRefIdeal.nD → PrngReg) :
    θ_run (Cert.InprojRefIdeal.defs (F := Ideal)) (onTc (τ := Cert.InprojRefIdeal.τ) (Cert.InprojRefIdeal.main (F := Ideal))) ⟨m, fun _ => 0, g⟩
      (fun r => (∀ c : Dev Cert.InprojRefIdeal.nD,
        r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
        ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
        ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
        ∧ r.2.sem = fun _ => 0) :=
  (θ_run _ _ _).mono (fun r k => ⟨fun c => (k c).2.2.2, sem_eq_zero_of_no_sems (by decide) _⟩) (Cert.InprojRefIdeal.Value.run (F := Ideal) m g)

open Cert.InprojIdeal in
/-- From equal arguments the kernel and the reference end with the same three arrays. -/
theorem value (m : (ℓ : Loc nD τ sig) → Buf (Elt Ideal) ℓ) (g : Dev nD → PrngReg)
    (m' : (ℓ : Loc Cert.InprojRefIdeal.nD Cert.InprojRefIdeal.τ Cert.InprojRefIdeal.sig) → Buf (Elt Ideal) ℓ) (g' : Dev Cert.InprojRefIdeal.nD → PrngReg)
    (h : ∀ c : Dev nD,
      m' ((c.tc : Thread Cert.InprojRefIdeal.nD Cert.InprojRefIdeal.τ).loc Cert.InprojRefIdeal.main_arg0) = m ((c.tc : Thread nD τ).loc main_arg0)
      ∧ m' ((c.tc : Thread Cert.InprojRefIdeal.nD Cert.InprojRefIdeal.τ).loc Cert.InprojRefIdeal.main_arg1) = m ((c.tc : Thread nD τ).loc main_arg1)
      ∧ m' ((c.tc : Thread Cert.InprojRefIdeal.nD Cert.InprojRefIdeal.τ).loc Cert.InprojRefIdeal.main_arg2) = m ((c.tc : Thread nD τ).loc main_arg2)) :
    ∃ (v0 : (c : Dev nD) → Buf (Elt Ideal) ((c.tc : Thread nD τ).loc main_v14_0))
      (v1 : (c : Dev nD) → Buf (Elt Ideal) ((c.tc : Thread nD τ).loc main_v14_1))
      (v2 : (c : Dev nD) → Buf (Elt Ideal) ((c.tc : Thread nD τ).loc main_v14_2)),
      θ_run (defs (F := Ideal)) (onTc (τ := τ) (main (F := Ideal))) ⟨m, fun _ => 0, g⟩ (fun r => ∀ c : Dev nD,
          r.2.mem ((c.tc : Thread nD τ).loc main_v14_0) = v0 c
          ∧ r.2.mem ((c.tc : Thread nD τ).loc main_v14_1) = v1 c
          ∧ r.2.mem ((c.tc : Thread nD τ).loc main_v14_2) = v2 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v19) = v0 c
          ∧ r.2.mem ((c.tc : Thread Cert.InprojRefIdeal.nD Cert.InprojRefIdeal.τ).loc Cert.InprojRefIdeal.main_v23) = v1 c
          ∧ r.2.mem ((c.tc : Thread Cert.InprojRefIdeal.nD Cert.InprojRefIdeal.τ).loc Cert.InprojRefIdeal.main_v24) = v2 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)) := by
  refine ⟨fun c => wide (m ((c.tc : Thread nD τ).loc main_arg0)) (m ((c.tc : Thread nD τ).loc main_arg1)) (m ((c.tc : Thread nD τ).loc main_arg2)), fun c => narrow (m ((c.tc : Thread nD τ).loc main_arg0)) (m ((c.tc : Thread nD τ).loc main_arg1)) (m ((c.tc : Thread nD τ).loc main_arg2)), fun c => narrowT (m ((c.tc : Thread nD τ).loc main_arg0)) (m ((c.tc : Thread nD τ).loc main_arg1)) (m ((c.tc : Thread nD τ).loc main_arg2)),
    (θ_run _ _ _).mono (fun r k c => ?_) (Cert.InprojIdeal.Value.run_blocks (F := Ideal) m g),
    (θ_run _ _ _).mono (fun r k c => ?_) (Cert.InprojRefIdeal.Value.run (F := Ideal) m' g')⟩
  · obtain ⟨k0, k1, k2, k3⟩ := k c
    exact ⟨k0.trans (K.final5 m c), k1.trans (K.final6 m c), k2.trans (K.final7 m c), k3⟩
  · obtain ⟨k0, k1, k2, k3⟩ := k c
    obtain ⟨h0, h1, h2⟩ := h c
    refine ⟨k0.trans ?_, k1.trans ?_, k2.trans ?_, k3⟩
    · rw [h0, h1, h2]
      exact R.wide_eq _ _ _
    · rw [h0, h1, h2]
      exact R.narrow_eq _ _ _
    · rw [h0, h1, h2]
      exact (congrArg (fun f => transpose _ [1, 0] f _) (R.narrow_eq _ _ _)).trans (R.narrowT_eq _ _ _ _)
end Cert.InProj

end
-- ==== Proof.RouteE2.lean ====
module

public import proofs.«01_k».proof.Proof.Gen.RouteIdeal.Value
public import proofs.«01_k».proof.Proof.Gen.RouteRefIdeal.Run
public import Idealize.ShloMosaic.Lib.Pointwise
public import Idealize.ShloMosaic.Lib.Pipeline.ValueKit
public import Idealize.ShloMosaic.Lib.VecWindow
public import Idealize.ShloMosaic.Lib.Claim
public import Idealize.ShloMosaic.Lib.Quiescent

/-!
# The keys' weights of the second half

Both programs end with the same array: per head, key and token, the score of the key for the second half of the
token's query, less the token's largest score at that head, exponentiated (`e2`). The kernel does it for 512 tokens at
a grid point, the queries of all heads by one product, then head by head, and within a head by groups of 128 lanes;
the reference does it whole.
-/

@[expose] public section

noncomputable section

namespace Cert.RouteE2

open Idealize.ShloMosaic Idealize.ShloMosaic.TcCoe Idealize.SL.Sem

section arrays
variable (x : FVec Ideal ⟨2, ![32768, 1024]⟩ .bf16) (u : FVec Ideal ⟨3, ![1, 1024, 2048]⟩ .f32) (s : FVec Ideal ⟨4, ![1, 2, 128, 128]⟩ .f32)

/-- The column of the query matrix that holds entry `d` of the second half of head `h`. -/
def qcol (h : Fin 8) (d : Fin 128) : Fin 2048 := ⟨256 * h.val + 128 + d.val, by omega⟩

/-- The score of key `k` for token `t` at head `h`. -/
def score (h : Fin 8) (t : Fin 32768) (k : Fin 128) : EReal := ∑ d, s (ix4 0 1 k d) * ∑ j, x (ix2 t j) * u (ix3 0 j (qcol h d))

/-- Entry `k` of a column, less the column's maximum, exponentiated. -/
def ex {n : ℕ} (f : Fin n → EReal) (k : Fin n) : EReal := Ideal.exp (f k - Finset.fold max (Ideal.ofBits FTy.f32 4286578688#32) f Finset.univ)

/-- The array of both programs: per head, key and token the exponential of the score less the token's largest. -/
def e2 : FVec Ideal ⟨3, ![8, 128, 32768]⟩ .bf16 := fun i => ex (score x u s (i 0) (i 2)) (i 1)
end arrays

namespace R
open Cert.RouteRefIdeal Cert.RouteRefIdeal.Gen
variable (x : FVec Ideal S32768x1024 .bf16) (u : FVec Ideal S1x1024x2048 .f32) (s : FVec Ideal S1x2x128x128 .f32)

/-- The reference's scores, as its operations. -/
def sc : FVec Ideal S8x32768x128 .f32 := (transpose S8x32768x128 [2, 1, 0] (Host.dotGeneral dot_S128x128_S32768x8x128_S128x32768x8_1_2_0_01_n_n none (shapeCast _ (extractStridedSlice S1x1x128x128 ![0, 1, 0, 0] s slices_S1x2x128x128_S1x1x128x128_0_1_0_0) shapeCasts_S1x1x128x128_S128x128) (shapeCast _ (extractStridedSlice S32768x8x1x128 ![0, 0, 1, 0] (shapeCast _ (Host.dotGeneral dot_S32768x1024_S1024x2048_S32768x2048_1_0_0_1_n_n none (extf .f32 x bitsLt_bf16_f32) (shapeCast _ u shapeCasts_S1x1024x2048_S1024x2048)) shapeCasts_S32768x2048_S32768x8x2x128) slices_S32768x8x2x128_S32768x8x1x128_0_0_1_0) shapeCasts_S32768x8x1x128_S32768x8x128)) transposes_S128x32768x8_S8x32768x128_2_1_0)

theorem sc_apply (h : Fin 8) (t : Fin 32768) (k : Fin 128) : sc x u s (ix3 h t k) = score x u s h t k := by
  pointwise [sc]
  simp only [score, qcol, mul_comm 256]

/-- What the reference does with the scores, as its operations. -/
def soft (f : FVec Ideal S8x32768x128 .f32) : FVec Ideal S8x128x32768 .bf16 := truncf .bf16 (transpose S8x128x32768 [0, 2, 1] (Host.exp (subf f (broadcastInDim S8x32768x128 ![0, 1, 2] bcast_S8x32768x1_S8x32768x128_0_1_2 (broadcastInDim S8x32768x1 ![0, 1] bcast_S8x32768_S8x32768x1_0_1 (Host.reduce FloatOps.maximumf f (constant S_ .f32 0xFF800000#32) reducesTo_S8x32768x128_S8x32768_d2 h_S_))))) transposes_S8x32768x128_S8x128x32768_0_2_1) bitsLt_bf16_f32

theorem soft_apply (f : FVec Ideal S8x32768x128 .f32) (h : Fin 8) (t : Fin 32768) (k : Fin 128) :
    soft f (ix3 h k t) = ex (fun k => f (ix3 h t k)) k := by
  pointwise [soft]
  rfl

theorem e2_eq : soft (sc x u s) = e2 x u s := by
  funext i
  rw [eq_ix3 i]
  exact (soft_apply _ _ _ _).trans (congrArg (ex · (i 1)) (funext fun k => sc_apply x u s (i 0) (i 2) k))
end R

namespace K
open Cert.RouteIdeal Cert.RouteIdeal.Gen

/-! What each store of a trip holds, of any scores. -/

theorem pay6_at (a : FVec Ideal S1x128x128 .bf16) (b : FVec Ideal S128x512 .f32) (k : Fin 128) (i : Fin 512) :
    k0_pay6 (F := Ideal) a b (ix2 k i) = ∑ d, a (ix3 0 k d) * b (ix2 d i) := by
  pointwise [k0_pay6]

theorem pay1_at (a : FVec Ideal S2048x1024 .bf16) (b : FVec Ideal S512x1024 .bf16) (k : Fin 2048) (i : Fin 512) :
    k0_pay1 (F := Ideal) a b (ix2 k i) = ∑ d, a (ix2 k d) * b (ix2 i d) := by
  pointwise [k0_pay1]

theorem lanes0 (a : FVec Ideal S1x128x128 .bf16) (b : FVec Ideal S128x512 .f32) (k i : Fin 128) :
    k0_pay770 (F := Ideal) (k0_pay8 a b) (ix3 0 k i) = ex (fun k => k0_pay6 (F := Ideal) a b (ix2 k ⟨i.val, by omega⟩)) k := by
  pointwise [k0_pay770, k0_pay8]
  rfl

theorem lanes1 (f : FVec Ideal S128x512 .f32) (k i : Fin 128) :
    k0_pay1517 (F := Ideal) (k0_pay773 f) (ix3 0 k i) = ex (fun k => f (ix2 k ⟨128 + i.val, by omega⟩)) k := by
  pointwise [k0_pay1517, k0_pay773]
  rfl

theorem lanes2 (f : FVec Ideal S128x512 .f32) (k i : Fin 128) :
    k0_pay2279 (F := Ideal) (k0_pay1523 (k0_pay1520 f)) (ix3 0 k i) = ex (fun k => f (ix2 k ⟨256 + i.val, by omega⟩)) k := by
  pointwise [k0_pay2279, k0_pay1520, k0_pay1523]
  rfl

theorem lanes3 (f : FVec Ideal S128x512 .f32) (k i : Fin 128) :
    k0_pay3 (F := Ideal) (k0_pay2283 f) (ix3 0 k i) = ex (fun k => f (ix2 k ⟨384 + i.val, by omega⟩)) k := by
  pointwise [k0_pay3, k0_pay2283]
  rfl

/-- One block of the array, of the keys and of the queries of the block's tokens. -/
def blk (K : FVec Ideal S2x128x128 .bf16) (Q : FVec Ideal S2048x512 .f32) : FVec Ideal S8x128x512 .bf16 := fun y =>
  ex (fun k => ∑ d, K (ix3 1 k d) * Q (ix2 (qcol (y 0) d) (y 2))) (y 1)

/-- What is true of every piece's own elements is true of an element some piece covers. -/
theorem read_of_pieces {sig : RefSig} {κ : Kind} {sp : Space} {s : Shape} {e : EltTy} {Val : EltTy → Type} (v : View sig κ sp s e) (f : v.ty.Contents Val)
    (G : s.Idx → Val e → Prop) (y : s.Idx) : ∀ L : List (View.Piece Val s e), (∀ p ∈ L, ∀ x : p.1.shape.Idx, G (p.1.emb x) (p.2 x)) → (∃ p ∈ L, y ∈ p.1.set) →
      G y (v.read Val (v.writes Val f L) y)
  | [], _, h => by obtain ⟨_, hm, _⟩ := h; exact absurd hm List.not_mem_nil
  | p :: L, hP, h => by
    by_cases hy : y ∈ p.1.set
    · obtain ⟨x, rfl⟩ : ∃ x, p.1.emb x = y := p.1.exists_idx_of_mem hy
      rw [View.read_writes_cons_emb]
      exact hP p List.mem_cons_self x
    · have hy' : y ∉ Finset.univ.map p.1.emb := by rwa [Rect.map_emb_univ]
      rw [View.writes_cons, View.read_slice_write_of_not_mem p.1 _ _ _ hy']
      refine read_of_pieces v f G y L (fun q hq => hP q (List.mem_cons_of_mem _ hq)) ?_
      obtain ⟨q, hq, hyq⟩ := h
      rcases List.mem_cons.mp hq with rfl | hq'
      · exact absurd hyq hy
      · exact ⟨q, hq', hyq⟩

/-- A trip's number, as a head. -/
def head (k : Fin k0_t1_loop.trips) : Fin 8 := ⟨k.val, lt_of_lt_of_le k.isLt (by decide)⟩

/-- A unit-stride rectangle of a rank-3 block, its element placed. -/
theorem emb3 {n0 n1 n2 : ℕ} (off : Fin 3 → ℕ) (o0 o1 o2 : ℕ) (e : off = ![o0, o1, o2]) (size : Fin 3 → ℕ) (inb : ∀ a, off a + size a ≤ (⟨3, ![n0, n1, n2]⟩ : Shape).size a)
    (j : (Rect.unit (s := ⟨3, ![n0, n1, n2]⟩) off size inb).shape.Idx) (z : (⟨3, ![n0, n1, n2]⟩ : Shape).Idx)
    (h0 : (z 0).val = o0 + (j 0).val) (h1 : (z 1).val = o1 + (j 1).val) (h2 : (z 2).val = o2 + (j 2).val) :
    (Rect.unit (s := ⟨3, ![n0, n1, n2]⟩) off size inb).emb j = z := by
  subst e
  funext a
  apply Fin.ext
  rw [ValueKit.rect_emb_unit_val]
  fin_cases a
  · exact h0.symm
  · exact h1.symm
  · exact h2.symm

/-- A stored piece holds `blk` when its entries are the exponentials of its head's scores at its lanes. -/
theorem piece (K : FVec Ideal S2x128x128 .bf16) (Q : FVec Ideal S2048x512 .f32) (k : Fin k0_t1_loop.trips) (off : Fin 3 → ℕ) (o : ℕ) (ho : o + 128 ≤ 512)
    (e : off = ![k.val, 0, o]) (inb : ∀ a, off a + S1x128x128.size a ≤ S8x128x512.size a) (w : FVec Ideal S1x128x128 .bf16)
    (hw : ∀ κ i : Fin 128, w (ix3 0 κ i) = ex (fun κ => ∑ d, K (ix3 1 κ d) * Q (ix2 (qcol (head k) d) ⟨o + i.val, by omega⟩)) κ) (x : S1x128x128.Idx) :
    w x = blk K Q ((Rect.unit (s := S8x128x512) off S1x128x128.size inb).emb x) := by
  have h2 : (x 2).val < 128 := (x 2).isLt
  have h0 : (x 0).val < 1 := (x 0).isLt
  rw [emb3 off k.val 0 o e _ inb x (ix3 (head k) (x 1) ⟨o + (x 2).val, by omega⟩) (show k.val = k.val + (x 0).val by omega) (zero_add _).symm rfl]
  have hx : x = ix3 0 (x 1) (x 2) := by
    refine (eq_ix3 x).trans (congrArg (fun z => ix3 z (x 1) (x 2)) (Fin.ext ?_))
    show (x 0).val = 0
    omega
  exact (congrArg w hx).trans (hw (x 1) (x 2))

section trip
variable (c : Dev nD) (i : grid0.Coords) (arg1 : Memref sig .tc .vmem S512x1024 .bf16) (harg1 : arg1.IsWhole) (arg2 : Memref sig .tc .vmem S2048x1024 .bf16) (harg2 : arg2.IsWhole) (arg3 : Memref sig .tc .vmem S2x128x128 .bf16) (harg3 : arg3.IsWhole) (arg4 : Memref sig .tc .vmem S8x128x512 .f32) (harg4 : arg4.IsWhole) (arg5 : Memref sig .tc .vmem S8x128x512 .f32) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S2048x512 .f32) (harg8 : arg8.IsWhole)

/-- The scores of a trip: the keys times the rows of the queries the trip reads. -/
theorem scores_at (X3 : BufTy.Contents (Elt Ideal) arg3.view.ty) (X8 : BufTy.Contents (Elt Ideal) arg8.view.ty) (k : Fin k0_t1_loop.trips) (κ : Fin 128) (i : Fin 512) :
    k0_pay6 (F := Ideal) (arg3.view.readAt (Elt Ideal) (Rect.unit (s := S2x128x128) ![1, 0, 0] S1x128x128.size inb_S2x128x128_S1x128x128_1_0_0).toLoadRect X3)
        (arg8.view.readAt (Elt Ideal) (Rect.unit (s := S2048x512) (k0_off2 k) S128x512.size (k0_off2_inb k)).toLoadRect X8) (ix2 κ i)
      = ∑ d, arg3.view.read (Elt Ideal) X3 (ix3 1 κ d) * arg8.view.read (Elt Ideal) X8 (ix2 (qcol (head k) d) i) := by
  refine (pay6_at _ _ _ _).trans (Finset.sum_congr rfl fun d _ => congrArg₂ _ ?_ ?_)
  · exact congrArg (arg3.view.read (Elt Ideal) X3) (emb3 _ 1 0 0 rfl _ _ _ _ rfl (zero_add _).symm (zero_add _).symm)
  · refine congrArg (arg8.view.read (Elt Ideal) X8) (funext fun a => Fin.ext ((ValueKit.rect_emb_unit_val (s := S2048x512) _ _ _ _ a).trans ?_))
    refine (congrArg (· + _) (congrFun (k0_off2_eq k) a)).trans ?_
    fin_cases a
    · rfl
    · exact zero_add _

theorem trip_pieces (𝒱 : Variants) (bd : Option 𝒱.V) (v7 : IVec S8x128 32) (X3 : BufTy.Contents (Elt Ideal) arg3.view.ty) (X8 : BufTy.Contents (Elt Ideal) arg8.view.ty) (k : Fin k0_t1_loop.trips) :
    ∀ p ∈ (trip_k0_t1 (F := Ideal) 𝒱 c bd i arg1 harg1 arg2 harg2 arg3 harg3 arg4 harg4 arg5 harg5 arg6 harg6 arg7 harg7 arg8 harg8 v7 X3 X8 k).2.2.1, ∀ x : p.1.shape.Idx,
      p.2 x = blk (arg3.view.read (Elt Ideal) X3) (arg8.view.read (Elt Ideal) X8) (p.1.emb x) := by
  delta trip_k0_t1
  dsimp only
  unfold trip_k0_t1.sl.r_767 trip_k0_t1.sl.r_3 trip_k0_t1.sl.r_512 trip_k0_t1.sl.r_260
  unfold trip_k0_t1.sl.r_509
  unfold trip_k0_t1.sl.r_1
  simp only [List.forall_mem_cons]
  refine ⟨fun x => ?_, fun x => ?_, fun x => ?_, fun x => ?_, by simp⟩
  · exact piece _ _ k _ 384 (by decide) (k0_off6_eq k) _ _ (fun κ i => (lanes3 _ κ i).trans (congrArg (ex · κ) (funext fun κ => scores_at _ _ _ _ k κ _))) x
  · exact piece _ _ k _ 256 (by decide) (k0_off5_eq k) _ _ (fun κ i => (lanes2 _ κ i).trans (congrArg (ex · κ) (funext fun κ => scores_at _ _ _ _ k κ _))) x
  · exact piece _ _ k _ 128 (by decide) (k0_off4_eq k) _ _ (fun κ i => (lanes1 _ κ i).trans (congrArg (ex · κ) (funext fun κ => scores_at _ _ _ _ k κ _))) x
  · refine piece _ _ k _ 0 (by decide) (k0_off3_eq k) _ _ (fun κ i => (lanes0 _ _ κ i).trans (congrArg (ex · κ) (funext fun κ => (scores_at _ _ _ _ k κ _).trans ?_))) x
    simp only [zero_add]

/-- Every piece of the trips before `n` holds `blk`. -/
theorem loop_pieces (𝒱 : Variants) (bd : Option 𝒱.V) (v7 : IVec S8x128 32) (X3 : BufTy.Contents (Elt Ideal) arg3.view.ty) (X8 : BufTy.Contents (Elt Ideal) arg8.view.ty) :
    ∀ n : ℕ, n ≤ k0_t1_loop.trips → ∀ p ∈ (pb_k0_t1 (F := Ideal) 𝒱 c bd i arg1 harg1 arg2 harg2 arg3 harg3 arg4 harg4 arg5 harg5 arg6 harg6 arg7 harg7 arg8 harg8 v7 X3 X8 n).2.2.1, ∀ x : p.1.shape.Idx,
      p.2 x = blk (arg3.view.read (Elt Ideal) X3) (arg8.view.read (Elt Ideal) X8) (p.1.emb x)
  | 0, _ => by
    rw [pb_k0_t1.eq_1]
    simp
  | n + 1, h => by
    rw [pb_k0_t1_succ 𝒱 c bd i arg1 harg1 arg2 harg2 arg3 harg3 arg4 harg4 arg5 harg5 arg6 harg6 arg7 harg7 arg8 harg8 v7 X3 X8 ⟨n, h⟩]
    intro p hp
    rcases List.mem_append.mp hp with hp | hp
    · unfold tripL_k0_t1 at hp
      exact trip_pieces c i arg1 harg1 arg2 harg2 arg3 harg3 arg4 harg4 arg5 harg5 arg6 harg6 arg7 harg7 arg8 harg8 𝒱 bd v7 X3 X8 ⟨n, h⟩ p hp
    · exact loop_pieces 𝒱 bd v7 X3 X8 n (Nat.le_of_succ_le h) p hp

/-- What the body leaves in the block of the array. -/
theorem out_eq (x0 : Vec Ideal S512x1024 .bf16) (x1 : Vec Ideal S2048x1024 .bf16) (x2 : Vec Ideal S2x128x128 .bf16) :
    out0_A_5 (F := Ideal) c i arg1 harg1 arg2 harg2 arg3 harg3 arg4 harg4 arg5 harg5 arg6 harg6 arg7 harg7 arg8 harg8 x0 x1 x2 = blk x2 (k0_pay1 (F := Ideal) x1 x0) := by
  funext y
  unfold out0_A_5
  refine (read_of_pieces _ _ (fun y v => v = blk x2 (k0_pay1 (F := Ideal) x1 x0) y) y _ ?_ (cover0_A_5 c i arg1 harg1 arg2 harg2 arg3 harg3 arg4 harg4 arg5 harg5 arg6 harg6 arg7 harg7 arg8 harg8 x0 x1 x2 y))
  delta kernelRun0_A
  dsimp only
  unfold kernelRun0_A.sl.HS0_1
  intro p hp x
  refine (loop_pieces c i arg1 harg1 arg2 harg2 arg3 harg3 arg4 harg4 arg5 harg5 arg6 harg6 arg7 harg7 arg8 harg8 Variants.none none _ _ _ _ (le_refl k0_t1_loop.trips) p hp x).trans ?_
  rw [harg3.read_unread]
  refine congrArg (fun Q => blk x2 Q _) ((View.read_writes_full _ _ _ _ _).trans (congrArg₂ (k0_pay1 (F := Ideal)) ?_ ?_))
  · exact (View.readAt_full _ _ _).trans (harg2.read_unread _)
  · exact (View.readAt_full _ _ _).trans (harg1.read_unread _)
end trip

variable (m : (ℓ : Loc nD τ sig) → Buf (Elt Ideal) ℓ) (c : Dev nD)

/-- Each window's block index at a grid point. -/
theorem idx : ∀ t : Fin cfg0.N, win0_0.index t = ![t.val, 0] ∧ win0_1.index t = ![0, 0] ∧ win0_2.index t = ![0, 0, 0] ∧ win0_5.index t = ![0, 0, t.val] :=
  (by decide +kernel : ∀ t : Fin grid0.N, _)

/-- Row `a` of grid point `t`, as a row of the array. -/
def tok (t : Fin cfg0.N) (a : Fin 512) : Fin 32768 := ⟨t.val * 512 + a.val, by
  have h : t.val < 64 := lt_of_lt_of_le t.isLt (by decide)
  omega⟩

theorem V_hn : V m c main_arg0 = m ((c : Thread nD τ).loc main_arg0) := by
  simp only [V, hostOps0]
  after_results

/-- The queries' matrix as the kernel's host code builds it. -/
abbrev wq (u : FVec Ideal S1x1024x2048 .f32) : FVec Ideal S2048x1024 .bf16 :=
  truncf .bf16 (transpose S2048x1024 [1, 0] (shapeCast S1024x2048 u shapeCasts_S1x1024x2048_S1024x2048) transposes_S1024x2048_S2048x1024_1_0) bitsLt_bf16_f32

/-- The keys as the kernel's host code builds them. -/
abbrev keys (s : FVec Ideal S1x2x128x128 .f32) : FVec Ideal S2x128x128 .bf16 :=
  truncf .bf16 (shapeCast S2x128x128 s shapeCasts_S1x2x128x128_S2x128x128) bitsLt_bf16_f32

theorem wq_at (u : FVec Ideal S1x1024x2048 .f32) (b : Fin 2048) (j : Fin 1024) : wq u (ix2 b j) = u (ix3 0 j b) := by
  pointwise

theorem keys_at (s : FVec Ideal S1x2x128x128 .f32) (a : Fin 2) (k d : Fin 128) : keys s (ix3 a k d) = s (ix4 0 a k d) := by
  pointwise

theorem V_wq : V m c main_v2 = wq (m ((c : Thread nD τ).loc main_arg1)) := by
  simp only [V, hostOps0]
  after_results
  rfl

theorem V_keys : V m c main_v4 = keys (m ((c : Thread nD τ).loc main_arg2)) := by
  simp only [V, hostOps0]
  after_results
  rfl

theorem emb_hn (t : Fin cfg0.N) (a : Fin 512) (j : Fin 1024) : ((View.whole main_arg0).slice (win0_0.rect t)).emb (ix2 a j) = ix2 (tok t a) j := by
  obtain ⟨e, -⟩ := idx t
  funext k
  fin_cases k <;> apply Fin.ext <;> refine (Pipeline.Window.rect_emb_val _ t _ _).trans ?_ <;> simp [e, tok]

theorem emb_wq (t : Fin cfg0.N) (b : Fin 2048) (j : Fin 1024) : ((View.whole main_v2).slice (win0_1.rect t)).emb (ix2 b j) = ix2 b j := by
  obtain ⟨-, e, -⟩ := idx t
  funext k
  fin_cases k <;> apply Fin.ext <;> refine (Pipeline.Window.rect_emb_val _ t _ _).trans ?_ <;> simp [e]

theorem emb_keys (t : Fin cfg0.N) (a : Fin 2) (k d : Fin 128) : ((View.whole main_v4).slice (win0_2.rect t)).emb (ix3 a k d) = ix3 a k d := by
  obtain ⟨-, -, e, -⟩ := idx t
  funext k
  fin_cases k <;> apply Fin.ext <;> refine (Pipeline.Window.rect_emb_val _ t _ _).trans ?_ <;> simp [e]

theorem emb_e2 (t : Fin cfg0.N) (h : Fin 8) (k : Fin 128) (a : Fin 512) : ((View.whole main_v5_2).slice (win0_5.rect t)).emb (ix3 h k a) = ix3 h k (tok t a) := by
  obtain ⟨-, -, -, e⟩ := idx t
  funext k
  fin_cases k <;> apply Fin.ext <;> refine (Pipeline.Window.rect_emb_val _ t _ _).trans ?_ <;> simp [e, tok]

theorem blk_hn (t : Fin cfg0.N) (a : Fin 512) (j : Fin 1024) : iblk m c 0 t (ix2 a j) = (m ((c : Thread nD τ).loc main_arg0)) (ix2 (tok t a) j) := by
  blk_simp [iblk]
  erw [emb_hn, V_hn]

theorem blk_wq (t : Fin cfg0.N) (b : Fin 2048) (j : Fin 1024) : iblk m c 1 t (ix2 b j) = (m ((c : Thread nD τ).loc main_arg1)) (ix3 0 j b) := by
  blk_simp [iblk]
  erw [emb_wq, V_wq, wq_at]

theorem blk_keys (t : Fin cfg0.N) (a : Fin 2) (k d : Fin 128) : iblk m c 2 t (ix3 a k d) = (m ((c : Thread nD τ).loc main_arg2)) (ix4 0 a k d) := by
  blk_simp [iblk]
  erw [emb_keys, V_keys, keys_at]

/-- A block, when its three operands are the arrays' blocks, is the array's block. -/
theorem blk_at (x : FVec Ideal S32768x1024 .bf16) (u : FVec Ideal S1x1024x2048 .f32) (s : FVec Ideal S1x2x128x128 .f32)
    (X : FVec Ideal S512x1024 .bf16) (U : FVec Ideal S2048x1024 .bf16) (K : FVec Ideal S2x128x128 .bf16) (t : Fin 32768) (a : Fin 512)
    (hX : ∀ j, X (ix2 a j) = x (ix2 t j)) (hU : ∀ b j, U (ix2 b j) = u (ix3 0 j b)) (hK : ∀ k d, K (ix3 1 k d) = s (ix4 0 1 k d)) (h : Fin 8) (k : Fin 128) :
    blk K (k0_pay1 (F := Ideal) U X) (ix3 h k a) = e2 x u s (ix3 h k t) := by
  show ex (fun k => ∑ d, K (ix3 1 k d) * k0_pay1 (F := Ideal) U X (ix2 (qcol h d) a)) k = ex (score x u s h t) k
  refine congrArg (ex · k) (funext fun k => Finset.sum_congr rfl fun d _ => congrArg₂ _ (hK k d) ((pay1_at _ _ _ _).trans (Finset.sum_congr rfl fun j _ => ?_)))
  rw [hX, hU]
  exact mul_comm _ _

theorem final5 : (dats m 0 c).arrAt 5 cfg0.N = e2 (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  simp only [outsAt0]
  rw [out_eq]
  rw [eq_ix3 y]
  generalize (y 0 : Fin 8) = h
  generalize (y 1 : Fin 128) = k
  generalize (y 2 : Fin 512) = a
  refine (blk_at _ _ _ _ _ _ (tok t a) a (blk_hn m c t a) (blk_wq m c t) (blk_keys m c t 1) h k).trans ?_
  exact congrArg (e2 (m ((c : Thread nD τ).loc main_arg0)) (m ((c : Thread nD τ).loc main_arg1)) (m ((c : Thread nD τ).loc main_arg2))) (emb_e2 t h k a).symm
end K

/-! ## The claims -/

/-- The reference leaves its arguments as they were and ends at rest. -/
theorem ref_frame (m : (ℓ : Loc Cert.RouteRefIdeal.nD Cert.RouteRefIdeal.τ Cert.RouteRefIdeal.sig) → Buf (Elt Ideal) ℓ)
    (g : Dev Cert.RouteRefIdeal.nD → PrngReg) :
    θ_run (Cert.RouteRefIdeal.defs (F := Ideal)) (onTc (τ := Cert.RouteRefIdeal.τ) (Cert.RouteRefIdeal.main (F := Ideal))) ⟨m, fun _ => 0, g⟩
      (fun r => (∀ c : Dev Cert.RouteRefIdeal.nD,
        r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
        ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
        ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2))
        ∧ r.2.sem = fun _ => 0) :=
  (θ_run _ _ _).mono (fun r k => ⟨fun c => (k c).2.2, sem_eq_zero_of_no_sems (by decide) _⟩) (Cert.RouteRefIdeal.Value.run (F := Ideal) m g)

end Cert.RouteE2

end
-- ==== Proof.Ranking.lean ====
module

public import Idealize.ShloMosaic.Lib.Pointwise

/-!
# The largest entries of 128 by columns

A list of 128 pairwise different entries lies in eight columns of sixteen. A network of compare-exchanges sorts every
column, largest first. Then, round by round, the largest of the eight heads is read off and the column it heads is
moved up by one. The entry read in round `r` has exactly `r` larger entries.
-/

@[expose] public section

namespace Cert.Ranking

section network
variable {ι κ α β : Type} [DecidableEq ι] [DecidableEq κ] [LinearOrder α] [LinearOrder β]

/-- A compare-exchange: the larger entry to the first place, the smaller to the second. -/
def cx (v : ι → α) (p : ι × ι) : ι → α := fun n => if n = p.1 then max (v p.1) (v p.2) else if n = p.2 then min (v p.1) (v p.2) else v n

theorem cx_map (f : α → β) (hf : Monotone f) (v : ι → α) (p : ι × ι) : cx (f ∘ v) p = f ∘ cx v p := by
  funext n
  simp only [cx, Function.comp]
  split_ifs
  · exact hf.map_max.symm
  · exact hf.map_min.symm
  · rfl

theorem run_map (f : α → β) (hf : Monotone f) (l : List (ι × ι)) : ∀ v : ι → α, l.foldl cx (f ∘ v) = f ∘ l.foldl cx v := by
  induction l with
  | nil => exact fun v => rfl
  | cons p l ih => exact fun v => by simp only [List.foldl_cons, cx_map f hf, ih]

theorem cx_perm (v : ι → α) (p : ι × ι) : ∃ σ : Equiv.Perm ι, cx v p = v ∘ σ := by
  rcases le_or_gt (v p.2) (v p.1) with h | h
  · refine ⟨1, funext fun n => ?_⟩
    simp only [cx, max_eq_left h, min_eq_right h, Function.comp, Equiv.Perm.coe_one, id]
    split_ifs with h1 h2
    · rw [h1]
    · rw [h2]
    · rfl
  · refine ⟨Equiv.swap p.1 p.2, funext fun n => ?_⟩
    simp only [cx, max_eq_right h.le, min_eq_left h.le, Function.comp, Equiv.swap_apply_def]
    split_ifs <;> rfl

/-- A network only moves the entries. -/
theorem run_perm (l : List (ι × ι)) : ∀ v : ι → α, ∃ σ : Equiv.Perm ι, l.foldl cx v = v ∘ σ := by
  induction l with
  | nil => exact fun v => ⟨1, rfl⟩
  | cons p l ih =>
    intro v
    obtain ⟨τ, hτ⟩ := cx_perm v p
    obtain ⟨σ, hσ⟩ := ih (cx v p)
    refine ⟨σ.trans τ, ?_⟩
    rw [List.foldl_cons, hσ, hτ]
    rfl

/-- A network on some of the places, seen on them. -/
theorem run_in (e : κ → ι) (he : Function.Injective e) (l : List (κ × κ)) : ∀ v : ι → α, ((l.map (Prod.map e e)).foldl cx v) ∘ e = l.foldl cx (v ∘ e) := by
  induction l with
  | nil => exact fun v => rfl
  | cons p l ih =>
    intro v
    rw [List.map_cons, List.foldl_cons, List.foldl_cons, ih]
    congr 1
    funext n
    simp only [cx, Function.comp, Prod.map, he.eq_iff]

/-- A network on some of the places leaves the others. -/
theorem run_out (e : κ → ι) (n : ι) (hn : ∀ m, e m ≠ n) (l : List (κ × κ)) : ∀ v : ι → α, (l.map (Prod.map e e)).foldl cx v n = v n := by
  induction l with
  | nil => exact fun v => rfl
  | cons p l ih =>
    intro v
    rw [List.map_cons, List.foldl_cons, ih]
    simp only [cx, Prod.map, if_neg (hn _).symm]

/-- A network that sorts eight. -/
def sort8 : List (Fin 8 × Fin 8) := [(0, 1), (2, 3), (0, 2), (1, 3), (1, 2), (4, 5), (6, 7), (4, 6), (5, 7), (5, 6), (0, 4), (2, 6), (2, 4), (1, 5), (3, 7), (3, 5), (1, 2), (3, 4), (5, 6)]

/-- A network that merges two sorted eights. -/
def merge : List (Fin 16 × Fin 16) := [(0, 8), (4, 12), (4, 8), (2, 10), (6, 14), (6, 10), (2, 4), (6, 8), (10, 12), (1, 9), (5, 13), (5, 9), (3, 11), (7, 15), (7, 11), (3, 5), (7, 9), (11, 13), (1, 2), (3, 4), (5, 6), (7, 8), (9, 10), (11, 12), (13, 14)]

def low (a : Fin 8) : Fin 16 := ⟨a.val, by omega⟩
def high (a : Fin 8) : Fin 16 := ⟨a.val + 8, by omega⟩

/-- The network that sorts sixteen: both halves, then their merge. -/
def net : List (Fin 16 × Fin 16) := sort8.map (Prod.map low low) ++ (sort8.map (Prod.map high high) ++ merge)

theorem sort8_bool : ∀ v : Fin 8 → Bool, ∃ j : Fin 9, ∀ n : Fin 8, sort8.foldl cx v n = decide (n.val < j.val) := by
  decide +kernel

/-- Two sorted halves of truth values, with `i` and `j` true. -/
def halves (i j : Fin 9) : Fin 16 → Bool := fun n => if n.val < 8 then decide (n.val < i.val) else decide (n.val - 8 < j.val)

theorem merge_bool : ∀ i j : Fin 9, ∀ n : Fin 16, merge.foldl cx (halves i j) n = decide (n.val < i.val + j.val) := by
  decide +kernel

theorem net_bool (v : Fin 16 → Bool) : ∃ j : ℕ, ∀ n : Fin 16, net.foldl cx v n = decide (n.val < j) := by
  have hl : Function.Injective low := fun a b h => Fin.ext (by have := congrArg Fin.val h; simpa only [low] using this)
  have hh : Function.Injective high := fun a b h => Fin.ext (Nat.add_right_cancel (congrArg Fin.val h))
  obtain ⟨i, hi⟩ := sort8_bool (v ∘ low)
  obtain ⟨j, hj⟩ := sort8_bool (v ∘ high)
  refine ⟨i.val + j.val, fun n => ?_⟩
  rw [net, List.foldl_append, List.foldl_append, ← merge_bool]
  refine congrArg (fun w => merge.foldl cx w n) (funext fun n => ?_)
  unfold halves
  split_ifs with h
  · have e : n = low ⟨n.val, h⟩ := rfl
    rw [run_out high n (fun m hm => by have := congrArg Fin.val hm; simp only [high] at this; omega)]
    exact (congrFun (run_in low hl sort8 v) ⟨n.val, h⟩).trans (hi _)
  · have e : n = high ⟨n.val - 8, by omega⟩ := Fin.ext (by simp only [high]; omega)
    refine Eq.trans ?_ (hj ⟨n.val - 8, by omega⟩)
    have := congrFun (run_in high hh sort8 ((sort8.map (Prod.map low low)).foldl cx v)) ⟨n.val - 8, by omega⟩
    refine (congrArg _ e).trans (this.trans (congrArg (fun w => sort8.foldl cx w _) (funext fun a => ?_)))
    exact run_out low (high a) (fun m hm => by have := congrArg Fin.val hm; simp only [high, low] at this; omega) _ _

/-- The network sorts: of truth values by cases, of anything else through the truth values "at least `t`". -/
theorem net_antitone (v : Fin 16 → α) : Antitone (net.foldl cx v) := by
  intro n m h
  have hf : Monotone (fun a => decide (net.foldl cx v m ≤ a)) := fun a b hab => by
    intro hd
    exact decide_eq_true (le_trans (of_decide_eq_true hd) hab)
  obtain ⟨j, hj⟩ := net_bool ((fun a => decide (net.foldl cx v m ≤ a)) ∘ v)
  rw [run_map _ hf] at hj
  have hm := hj m
  have hn := hj n
  simp only [Function.comp, le_refl, decide_true] at hm hn
  have : m.val < j := of_decide_eq_true hm.symm
  rw [decide_eq_true (lt_of_le_of_lt (Fin.le_def.mp h) this)] at hn
  exact of_decide_eq_true hn
end network

section rounds
variable {α : Type} [LinearOrder α]

/-- The state after `r` rounds: `d c` entries are gone from column `c`, `r` in all, each larger than every entry left. -/
theorem state (S : Fin 8 → ℕ → α) (anti : ∀ c n n', n ≤ n' → n' < 16 → S c n' ≤ S c n)
    (inj : ∀ c n c' n', n < 16 → n' < 16 → S c n = S c' n' → c = c' ∧ n = n')
    (t : ℕ → ℕ → Fin 8 → α) (M : ℕ → α) (h0 : ∀ n < 16, ∀ c, t 0 n c = S c n)
    (hs : ∀ r n c, n + 1 < 16 - r → t (r + 1) n c = if t r 0 c = M r then t r (n + 1) c else t r n c)
    (hle : ∀ r < 16, ∀ c, t r 0 c ≤ M r) (hex : ∀ r < 16, ∃ c, t r 0 c = M r) :
    ∀ r < 16, ∃ d : Fin 8 → ℕ, ∑ c, d c = r ∧ (∀ c n, n < 16 - r → t r n c = S c (n + d c)) ∧
      ∀ c n c' n', n < d c → d c' ≤ n' → n' < 16 → S c' n' < S c n := by
  intro r
  induction r with
  | zero => exact fun _ => ⟨fun _ => 0, by simp, fun c n hn => h0 n hn c, fun c n c' n' h => absurd h (Nat.not_lt_zero _)⟩
  | succ r ih =>
    intro hr
    obtain ⟨d, hd, ht, ho⟩ := ih (by omega)
    have hdle : ∀ c, d c ≤ r := fun c => hd ▸ Finset.single_le_sum (fun _ _ => Nat.zero_le _) (Finset.mem_univ c)
    have hhead : ∀ c, t r 0 c = S c (d c) := fun c => by rw [ht c 0 (by omega), zero_add]
    obtain ⟨c₀, hc₀⟩ := hex r (by omega)
    have huniq : ∀ c, t r 0 c = M r ↔ c = c₀ := fun c => by
      refine ⟨fun h => ?_, fun h => h ▸ hc₀⟩
      refine (inj c (d c) c₀ (d c₀) ?_ ?_ ?_).1
      · have := hdle c; omega
      · have := hdle c₀; omega
      · rw [← hhead, ← hhead, h, hc₀]
    refine ⟨fun c => d c + if c = c₀ then 1 else 0, ?_, ?_, ?_⟩
    · rw [Finset.sum_add_distrib, hd]
      simp
    · intro c n hn
      rw [hs r n c (by omega)]
      simp only [huniq]
      split_ifs
      · rw [ht c (n + 1) (by omega)]
        congr 1
        omega
      · rw [ht c n (by omega)]
        congr 1
    · intro c n c' n' h h' hn'
      dsimp only at h h'
      have h1 : d c' ≤ n' := by omega
      by_cases hc : n < d c
      · exact ho c n c' n' hc h1 hn'
      have hcc : c = c₀ := by
        by_contra hne
        rw [if_neg hne] at h
        omega
      subst hcc
      rw [if_pos rfl] at h
      have hn : n = d c := by omega
      have hle' : S c' n' ≤ S c n := by
        refine (anti c' (d c') n' h1 hn').trans ?_
        rw [hn, ← hhead c, hc₀, ← hhead c']
        exact hle r (by omega) c'
      refine lt_of_le_of_ne hle' fun he => ?_
      have hd' := hdle c
      obtain ⟨e1, e2⟩ := inj c' n' c n hn' (by omega) he
      subst e1
      rw [if_pos rfl] at h'
      omega

/-- What round `r` reads off is an entry, and `r` entries are larger. -/
theorem read (S : Fin 8 → ℕ → α) (anti : ∀ c n n', n ≤ n' → n' < 16 → S c n' ≤ S c n)
    (inj : ∀ c n c' n', n < 16 → n' < 16 → S c n = S c' n' → c = c' ∧ n = n')
    (t : ℕ → ℕ → Fin 8 → α) (M : ℕ → α) (h0 : ∀ n < 16, ∀ c, t 0 n c = S c n)
    (hs : ∀ r n c, n + 1 < 16 - r → t (r + 1) n c = if t r 0 c = M r then t r (n + 1) c else t r n c)
    (hle : ∀ r < 16, ∀ c, t r 0 c ≤ M r) (hex : ∀ r < 16, ∃ c, t r 0 c = M r) (r : ℕ) (hr : r < 16) :
    (∃ p : Fin 8 × Fin 16, S p.1 p.2.val = M r) ∧ (Finset.univ.filter fun p : Fin 8 × Fin 16 => M r < S p.1 p.2.val).card = r := by
  obtain ⟨d, hd, ht, ho⟩ := state S anti inj t M h0 hs hle hex r hr
  have hdle : ∀ c, d c ≤ r := fun c => hd ▸ Finset.single_le_sum (fun _ _ => Nat.zero_le _) (Finset.mem_univ c)
  have hhead : ∀ c, t r 0 c = S c (d c) := fun c => by rw [ht c 0 (by omega), zero_add]
  obtain ⟨c₀, hc₀⟩ := hex r hr
  have hlt : d c₀ < 16 := by have := hdle c₀; omega
  refine ⟨⟨(c₀, ⟨d c₀, hlt⟩), (hhead c₀).symm.trans hc₀⟩, ?_⟩
  have hiff : ∀ p : Fin 8 × Fin 16, M r < S p.1 p.2.val ↔ p.2.val < d p.1 := fun p => by
    constructor
    · intro h
      by_contra hn
      refine absurd h (not_lt.mpr (((anti p.1 (d p.1) p.2.val (by omega) p.2.isLt)).trans ?_))
      rw [← hhead]
      exact hle r hr p.1
    · intro h
      rw [← hc₀, hhead c₀]
      exact ho p.1 p.2.val c₀ (d c₀) h le_rfl hlt
  have hcol : ∀ c, (Finset.univ.filter fun n : Fin 16 => n.val < d c).card = d c := fun c => by
    have := hdle c
    rw [Fin.card_filter_val_lt]
    omega
  simp only [hiff]
  rw [← Finset.univ_product_univ, Finset.card_filter, Finset.sum_product]
  refine Eq.trans (Finset.sum_congr rfl fun c _ => ?_) hd
  rw [← Finset.card_filter]
  exact hcol c
end rounds

/-- Entry `n` of column `c`, as a key. -/
def key (c : Fin 8) (n : Fin 16) : Fin 128 := ⟨8 * n.val + c.val, by omega⟩

theorem key_inj (c : Fin 8) (n : Fin 16) (c' : Fin 8) (n' : Fin 16) (h : key c n = key c' n') : c = c' ∧ n = n' := by
  have := congrArg Fin.val h
  simp only [key] at this
  exact ⟨Fin.ext (by omega), Fin.ext (by omega)⟩

section whole
variable {α : Type} [LinearOrder α]

/-- The network and the rounds, of 128 different entries: the entry read in round `r` is one that has `r` larger ones. -/
theorem top_spec (x : Fin 128 → α) (hx : Function.Injective x) (t : ℕ → ℕ → Fin 8 → α) (M : ℕ → α)
    (h0 : ∀ (n : Fin 16) c, t 0 n.val c = net.foldl cx (fun k => x (key c k)) n)
    (hs : ∀ r n c, n + 1 < 16 - r → t (r + 1) n c = if t r 0 c = M r then t r (n + 1) c else t r n c)
    (hle : ∀ r < 16, ∀ c, t r 0 c ≤ M r) (hex : ∀ r < 16, ∃ c, t r 0 c = M r) (r : ℕ) (hr : r < 16) :
    (∃ k, x k = M r) ∧ (Finset.univ.filter fun k => M r < x k).card = r := by
  choose σ hσ using fun c => run_perm net (fun k => x (key c k))
  have hval : ∀ c (n : Fin 16), t 0 n.val c = x (key c (σ c n)) := fun c n => (h0 n c).trans (congrFun (hσ c) n)
  obtain ⟨⟨p, hp⟩, hcard⟩ := read (fun c n => t 0 n c) (fun c n n' h h' => by
      have := net_antitone (fun k => x (key c k)) (a := ⟨n, by omega⟩) (b := ⟨n', h'⟩) h
      rwa [← h0 ⟨n, by omega⟩ c, ← h0 ⟨n', h'⟩ c] at this)
    (fun c n c' n' h h' e => by
      have e' : t 0 n c = t 0 n' c' := e
      rw [hval c ⟨n, h⟩, hval c' ⟨n', h'⟩] at e'
      obtain ⟨e1, e2⟩ := key_inj _ _ _ _ (hx e')
      subst e1
      exact ⟨rfl, congrArg Fin.val ((σ c).injective e2)⟩)
    t M (fun n _ c => rfl) hs hle hex r hr
  refine ⟨⟨_, (hval p.1 p.2).symm.trans hp⟩, Eq.trans (Eq.symm ?_) hcard⟩
  refine Finset.card_bij (fun p _ => key p.1 (σ p.1 p.2)) (fun p h => ?_) (fun p _ q _ h => ?_) (fun k h => ?_)
  · have := (Finset.mem_filter.mp h).2
    rw [hval] at this
    exact Finset.mem_filter.mpr ⟨Finset.mem_univ _, this⟩
  · obtain ⟨e1, e2⟩ := key_inj _ _ _ _ h
    obtain ⟨c, n⟩ := p
    obtain ⟨c', n'⟩ := q
    dsimp only at e1 e2
    subst e1
    rw [(σ c).injective e2]
  · have hk := k.isLt
    have e : key ⟨k.val % 8, by omega⟩ (σ ⟨k.val % 8, by omega⟩ ((σ ⟨k.val % 8, by omega⟩).symm ⟨k.val / 8, by omega⟩)) = k := by
      rw [Equiv.apply_symm_apply]
      exact Fin.ext (by simp only [key]; omega)
    refine ⟨(⟨k.val % 8, by omega⟩, (σ ⟨k.val % 8, by omega⟩).symm ⟨k.val / 8, by omega⟩), ?_, e⟩
    refine Finset.mem_filter.mpr ⟨Finset.mem_univ _, ?_⟩
    rw [hval, e]
    exact (Finset.mem_filter.mp h).2

/-- An entry is the one read in round `r` exactly when `r` entries are larger. -/
theorem eq_top_iff {n : ℕ} (x : Fin n → α) (M : α) (r : ℕ) (hM : ∃ k, x k = M) (hc : (Finset.univ.filter fun k => M < x k).card = r) (k : Fin n) :
    x k = M ↔ (Finset.univ.filter fun j => x k < x j).card = r := by
  refine ⟨fun h => h ▸ hc, fun h => ?_⟩
  obtain ⟨k₀, rfl⟩ := hM
  have key : ∀ a b : Fin n, x a < x b → (Finset.univ.filter fun j => x b < x j).card < (Finset.univ.filter fun j => x a < x j).card := fun a b hab => by
    refine Finset.card_lt_card (Finset.ssubset_iff_of_subset (fun j hj => ?_) |>.mpr ⟨b, ?_, ?_⟩)
    · exact Finset.mem_filter.mpr ⟨Finset.mem_univ _, hab.trans (Finset.mem_filter.mp hj).2⟩
    · exact Finset.mem_filter.mpr ⟨Finset.mem_univ _, hab⟩
    · exact fun hb => lt_irrefl _ (Finset.mem_filter.mp hb).2
  rcases lt_trichotomy (x k) (x k₀) with h' | h' | h'
  · exact absurd (key _ _ h') (by rw [hc, h]; exact lt_irrefl _)
  · exact h'
  · exact absurd (key _ _ h') (by rw [hc, h]; exact lt_irrefl _)
end whole

/-- Counting, as a sum of extended reals. -/
theorem sum_count {n : ℕ} (p : Fin n → Prop) [DecidablePred p] : (∑ j, if p j then (1 : EReal) else 0) = ((Finset.univ.filter p).card : EReal) := by
  rw [Finset.sum_ite, Finset.sum_const_zero, add_zero, Finset.sum_const, nsmul_one]

end Cert.Ranking
-- ==== Proof.RouteRank.lean ====
module

public import proofs.«01_k».proof.Proof.Gen.RouteIdeal.Value
public import proofs.«01_k».proof.Proof.Ranking
public import Idealize.ShloMosaic.Lib.Pointwise

/-!
# The ranks of a group of 128 lanes

What the routing kernel does with the 128 keys by 128 lanes of one group: the keys go into sixteen tiles of eight, the
tiles through a sorting network, sixteen times the largest head of each lane is read off and its column moved up, and
at last every key is compared with the sixteen values read. Where the 128 keys of a lane are pairwise different, every
key gets the number of larger keys, 16 standing for all numbers from 16 on (`ranks_at`). The program's own terms of the
four groups are this description's (`ranks0` to `ranks3`).
-/

@[expose] public section

set_option maxRecDepth 100000

noncomputable section

namespace Cert.RouteRank
open Idealize.ShloMosaic Idealize.ShloMosaic.TcCoe Idealize.SL.Sem
open Cert.RouteIdeal Cert.RouteIdeal.Gen

/-- Eight keys of every lane. -/
abbrev Tile := FVec Ideal S8x128 .f32
/-- One value of every lane. -/
abbrev Row := FVec Ideal S1x128 .f32

/-- The keys, in sixteen tiles. -/
def tiles (x : FVec Ideal S128x128 .f32) : Fin 16 → Tile :=
  ![extractStridedSlice S8x128 ![0, 0] x slices_S128x128_o0_0_S8x128, extractStridedSlice S8x128 ![8, 0] x slices_S128x128_o8_0_S8x128, extractStridedSlice S8x128 ![16, 0] x slices_S128x128_o16_0_S8x128, extractStridedSlice S8x128 ![24, 0] x slices_S128x128_o24_0_S8x128, extractStridedSlice S8x128 ![32, 0] x slices_S128x128_o32_0_S8x128, extractStridedSlice S8x128 ![40, 0] x slices_S128x128_o40_0_S8x128, extractStridedSlice S8x128 ![48, 0] x slices_S128x128_o48_0_S8x128, extractStridedSlice S8x128 ![56, 0] x slices_S128x128_o56_0_S8x128, extractStridedSlice S8x128 ![64, 0] x slices_S128x128_o64_0_S8x128, extractStridedSlice S8x128 ![72, 0] x slices_S128x128_o72_0_S8x128, extractStridedSlice S8x128 ![80, 0] x slices_S128x128_o80_0_S8x128, extractStridedSlice S8x128 ![88, 0] x slices_S128x128_o88_0_S8x128, extractStridedSlice S8x128 ![96, 0] x slices_S128x128_o96_0_S8x128, extractStridedSlice S8x128 ![104, 0] x slices_S128x128_o104_0_S8x128, extractStridedSlice S8x128 ![112, 0] x slices_S128x128_o112_0_S8x128, extractStridedSlice S8x128 ![120, 0] x slices_S128x128_o120_0_S8x128]

/-- A compare-exchange of two tiles. -/
def swap (v : Fin 16 → Tile) (p : Fin 16 × Fin 16) : Fin 16 → Tile := fun n =>
  if n = p.1 then maximumf (v p.1) (v p.2) else if n = p.2 then minimumf (v p.1) (v p.2) else v n

/-- The network's compare-exchanges. -/
def net : List (Fin 16 × Fin 16) := [(0, 1), (2, 3), (0, 2), (1, 3), (1, 2), (4, 5), (6, 7), (4, 6), (5, 7), (5, 6), (0, 4), (2, 6), (2, 4), (1, 5), (3, 7), (3, 5), (1, 2), (3, 4), (5, 6), (8, 9), (10, 11), (8, 10), (9, 11), (9, 10), (12, 13), (14, 15), (12, 14), (13, 15), (13, 14), (8, 12), (10, 14), (10, 12), (9, 13), (11, 15), (11, 13), (9, 10), (11, 12), (13, 14), (0, 8), (4, 12), (4, 8), (2, 10), (6, 14), (6, 10), (2, 4), (6, 8), (10, 12), (1, 9), (5, 13), (5, 9), (3, 11), (7, 15), (7, 11), (3, 5), (7, 9), (11, 13), (1, 2), (3, 4), (5, 6), (7, 8), (9, 10), (11, 12), (13, 14)]

/-- The largest of the eight values of every lane. -/
def colmax (t : Tile) : Row := shapeCast S1x128 (multiReduction .maximumf [0] S128 t 0xFF800000#32 reduces_S8x128_S128 (.inl rfl) rfl) shapeCasts_S128_S1x128

/-- A list's first tile. -/
def hd : List Tile → Tile
  | [] => fun _ => (0 : EReal)
  | a :: _ => a

/-- Where the first tile `a` holds its column's maximum take `y`, elsewhere `x`. -/
def pick (a x y : Tile) : Tile := select (cmpf .oeq a (broadcastTo S8x128 (colmax a) broadcasts_S1x128_S8x128)) y x

/-- A round's move: where `a` holds its lane's maximum, the later tiles' entries move one tile up. -/
def shift (a : Tile) : List Tile → List Tile
  | x :: y :: l => pick a x y :: shift a (y :: l)
  | _ => []

/-- The tiles left after a number of rounds. -/
def rounds (l : List Tile) : ℕ → List Tile
  | 0 => l
  | r + 1 => shift (hd (rounds l r)) (rounds l r)

/-- The value round `r` reads. -/
def top (l : List Tile) (r : ℕ) : Row := colmax (hd (rounds l r))

/-- The tiles, sorted. -/
def sorted (x : FVec Ideal S128x128 .f32) : Fin 16 → Tile := net.foldl swap (tiles x)

/-- Sixteen rows, stacked. -/
def cat (m : ℕ → Row) : FVec Ideal S16x128 .f32 :=
  concatenate S16x128 0 [⟨S1x128, m 0⟩, ⟨S1x128, m 1⟩, ⟨S1x128, m 2⟩, ⟨S1x128, m 3⟩, ⟨S1x128, m 4⟩, ⟨S1x128, m 5⟩, ⟨S1x128, m 6⟩, ⟨S1x128, m 7⟩, ⟨S1x128, m 8⟩, ⟨S1x128, m 9⟩, ⟨S1x128, m 10⟩, ⟨S1x128, m 11⟩, ⟨S1x128, m 12⟩, ⟨S1x128, m 13⟩, ⟨S1x128, m 14⟩, ⟨S1x128, m 15⟩] concatenates_S1x128_S1x128_S1x128_S1x128_S1x128_S1x128_S1x128_S1x128_S1x128_S1x128_S1x128_S1x128_S1x128_S1x128_S1x128_S1x128_S16x128_d0

/-- The tiles, as a list. -/
def lst (v : Fin 16 → Tile) : List Tile := [v 0, v 1, v 2, v 3, v 4, v 5, v 6, v 7, v 8, v 9, v 10, v 11, v 12, v 13, v 14, v 15]

/-- The sixteen values read. -/
def tops (x : FVec Ideal S128x128 .f32) : FVec Ideal S16x128 .f32 := cat (top (lst (sorted x)))

/-- Rank `b` to every key that equals row `i`. -/
def mark (x : FVec Ideal S128x128 .f32) (m : FVec Ideal S16x128 .f32) (i : ℕ) (h : S16x128.Slices ![i, 0] S1x128) (b : BitVec 32) (z : FVec Ideal S128x128 .f32) : FVec Ideal S128x128 .f32 :=
  select (cmpf .oeq x (broadcastTo S128x128 (extractStridedSlice S1x128 ![i, 0] m h) broadcasts_S1x128_S128x128)) (broadcast S128x128 (Scalar.ofBits .f32 b)) z

/-- The ranks of all keys. -/
def ranks (x : FVec Ideal S128x128 .f32) : FVec Ideal S1x128x128 .bf16 :=
  shapeCast S1x128x128 (truncf .bf16 (mark x (tops x) 15 slices_S16x128_o15_0_S1x128 0x41700000#32 (mark x (tops x) 14 slices_S16x128_o14_0_S1x128 0x41600000#32 (mark x (tops x) 13 slices_S16x128_o13_0_S1x128 0x41500000#32 (mark x (tops x) 12 slices_S16x128_o12_0_S1x128 0x41400000#32 (mark x (tops x) 11 slices_S16x128_o11_0_S1x128 0x41300000#32 (mark x (tops x) 10 slices_S16x128_o10_0_S1x128 0x41200000#32 (mark x (tops x) 9 slices_S16x128_o9_0_S1x128 0x41100000#32 (mark x (tops x) 8 slices_S16x128_o8_0_S1x128 0x41000000#32 (mark x (tops x) 7 slices_S16x128_o7_0_S1x128 0x40E00000#32 (mark x (tops x) 6 slices_S16x128_o6_0_S1x128 0x40C00000#32 (mark x (tops x) 5 slices_S16x128_o5_0_S1x128 0x40A00000#32 (mark x (tops x) 4 slices_S16x128_o4_0_S1x128 0x40800000#32 (mark x (tops x) 3 slices_S16x128_o3_0_S1x128 0x40400000#32 (mark x (tops x) 2 slices_S16x128_o2_0_S1x128 0x40000000#32 (mark x (tops x) 1 slices_S16x128_o1_0_S1x128 0x3F800000#32 (mark x (tops x) 0 slices_S16x128_o0_0_S1x128 0x00000000#32 (broadcast S128x128 (Scalar.ofBits .f32 0x41800000#32)))))))))))))))))) bitsLt_bf16_f32) shapeCasts_S128x128_S1x128x128

theorem net_eq : net = Ranking.net := by decide

/-- A network of tiles, at one place. -/
theorem swaps_at (c : Fin 8) (l : Fin 128) (L : List (Fin 16 × Fin 16)) : ∀ (v : Fin 16 → Tile) (n : Fin 16),
    L.foldl swap v n (ix2 c l) = L.foldl Ranking.cx (fun k => v k (ix2 c l)) n := by
  induction L with
  | nil => exact fun v n => rfl
  | cons p L ih =>
    intro v n
    rw [List.foldl_cons, List.foldl_cons, ih]
    refine congrArg (fun w => L.foldl Ranking.cx w n) (funext fun k => ?_)
    unfold swap Ranking.cx
    split_ifs <;> rfl

theorem tiles_at (x : FVec Ideal S128x128 .f32) (c : Fin 8) (l : Fin 128) (k : Fin 16) : tiles x k (ix2 c l) = x (ix2 (Ranking.key c k) l) := by
  fin_cases k <;> simp only [tiles] <;> pointwise <;> refine congrArg (fun k => x (ix2 k l)) (Fin.ext ?_) <;> simp [Ranking.key, Nat.add_comm]

theorem colmax_at (t : Tile) (l : Fin 128) : colmax t (ix2 0 l) = Finset.fold max (Ideal.ofBits FTy.f32 4286578688#32) (fun c => t (ix2 c l)) Finset.univ := by
  pointwise [colmax]

theorem pick_at (a x y : Tile) (c : Fin 8) (l : Fin 128) : pick a x y (ix2 c l) = if a (ix2 c l) = colmax a (ix2 0 l) then y (ix2 c l) else x (ix2 c l) := by
  generalize hm : colmax a = m
  unfold pick
  rw [hm]
  pointwise

theorem mark_at (x : FVec Ideal S128x128 .f32) (m : FVec Ideal S16x128 .f32) (i : ℕ) (hi : i < 16) (h : S16x128.Slices ![i, 0] S1x128) (b : BitVec 32) (z : FVec Ideal S128x128 .f32) (k l : Fin 128) :
    mark x m i h b z (ix2 k l) = if x (ix2 k l) = m (ix2 ⟨i, hi⟩ l) then Ideal.ofBits .f32 b else z (ix2 k l) := by
  pointwise [mark]

theorem cat_at (m : ℕ → Row) (i : Fin 16) (l : Fin 128) : cat m (ix2 i l) = m i.val (ix2 0 l) := by
  fin_cases i <;> pointwise [cat]

/-- Tile `n` after `r` rounds. -/
def T (f : ℕ → Tile) : ℕ → ℕ → Tile
  | 0, n => f n
  | r + 1, n => pick (T f r 0) (T f r n) (T f r (n + 1))

theorem hd_map (f : ℕ → Tile) (N : ℕ) : hd ((List.range (N + 1)).map f) = f 0 := by
  rw [List.range_succ_eq_map]
  rfl

theorem shift_map (a : Tile) (N : ℕ) : ∀ f : ℕ → Tile, shift a ((List.range (N + 1)).map f) = (List.range N).map fun n => pick a (f n) (f (n + 1)) := by
  induction N with
  | zero => exact fun f => rfl
  | succ N ih =>
    intro f
    have h := ih (f ∘ Nat.succ)
    rw [List.range_succ_eq_map (n := N)] at h
    rw [List.range_succ_eq_map (n := N + 1), List.range_succ_eq_map (n := N)]
    simp only [List.map_cons, List.map_map] at h ⊢
    rw [shift]
    refine congrArg₂ List.cons rfl ?_
    exact h

/-- The tiles after `r` rounds, one by one. -/
theorem rounds_map (f : ℕ → Tile) : ∀ r < 16, rounds ((List.range 16).map f) r = (List.range (16 - r)).map (T f r)
  | 0, _ => rfl
  | r + 1, h => by
    rw [rounds, rounds_map f r (by omega), show 16 - r = (16 - (r + 1)) + 1 by omega, hd_map, shift_map]
    rfl

theorem top_map (f : ℕ → Tile) (r : ℕ) (h : r < 16) : top ((List.range 16).map f) r = colmax (T f r 0) := by
  rw [top, rounds_map f r h, show 16 - r = (15 - r) + 1 by omega, hd_map]

theorem lst_map (v : Fin 16 → Tile) : lst v = (List.range 16).map fun n => v (Fin.ofNat 16 n) := rfl

theorem least : Ideal.ofBits FTy.f32 4286578688#32 = ⊥ := by simp [Ideal.ofBits, Ideal.ieee]

theorem fold_mem (f : Fin 8 → EReal) : ∃ c, f c = Finset.fold max (Ideal.ofBits FTy.f32 4286578688#32) f Finset.univ := by
  rw [least]
  obtain ⟨c, -, h⟩ := Finset.exists_mem_eq_sup Finset.univ Finset.univ_nonempty f
  exact ⟨c, h.symm⟩

theorem le_fold {n : ℕ} (f : Fin n → EReal) (b : EReal) (c : Fin n) : f c ≤ Finset.fold max b f Finset.univ :=
  Finset.le_fold_max _ |>.mpr (Or.inr ⟨c, Finset.mem_univ c, le_rfl⟩)

/-- Row `i` of the tops, at a lane whose entries are different: an entry with `i` larger ones. -/
theorem tops_spec (x : FVec Ideal S128x128 .f32) (l : Fin 128) (hx : Function.Injective fun k : Fin 128 => x (ix2 k l)) (i : Fin 16) :
    (∃ k : Fin 128, x (ix2 k l) = tops x (ix2 i l)) ∧ (Finset.univ.filter fun k : Fin 128 => tops x (ix2 i l) < x (ix2 k l)).card = i.val := by
  have e : ∀ r : ℕ, r < 16 → top (lst (sorted x)) r (ix2 0 l) = Finset.fold max (Ideal.ofBits FTy.f32 4286578688#32) (fun c => T (fun n => sorted x (Fin.ofNat 16 n)) r 0 (ix2 c l)) Finset.univ := fun r hr => by
    rw [lst_map, top_map _ r hr, colmax_at]
  rw [tops, cat_at]
  refine Ranking.top_spec (fun k => x (ix2 k l)) hx (fun r n c => T (fun n => sorted x (Fin.ofNat 16 n)) r n (ix2 c l)) (fun r => top (lst (sorted x)) r (ix2 0 l)) ?_ ?_ ?_ ?_ i.val i.isLt
  · intro n c
    show sorted x (Fin.ofNat 16 n.val) (ix2 c l) = _
    rw [show Fin.ofNat 16 n.val = n from Fin.ext (Nat.mod_eq_of_lt n.isLt), sorted, swaps_at, net_eq]
    exact congrArg (fun w => Ranking.net.foldl Ranking.cx w n) (funext fun k => tiles_at x c l k)
  · intro r n c hn
    show pick _ _ _ (ix2 c l) = _
    rw [pick_at, e r (by omega), colmax_at]
  · intro r hr c
    rw [e r hr]
    exact le_fold (fun c => T (fun n => sorted x (Fin.ofNat 16 n)) r 0 (ix2 c l)) _ c
  · intro r hr
    rw [e r hr]
    exact fold_mem _

/-- The seventeen constants. -/
theorem consts : ∀ p ∈ [(0, 0x00000000#32), (1, 0x3F800000#32), (2, 0x40000000#32), (3, 0x40400000#32), (4, 0x40800000#32), (5, 0x40A00000#32), (6, 0x40C00000#32), (7, 0x40E00000#32), (8, 0x41000000#32), (9, 0x41100000#32), (10, 0x41200000#32), (11, 0x41300000#32), (12, 0x41400000#32), (13, 0x41500000#32), (14, 0x41600000#32), (15, 0x41700000#32), (16, 0x41800000#32)],
    Ideal.ofBits .f32 p.2 = ((p.1 : ℕ) : EReal) := by
  simp only [← EReal.coe_natCast]
  simp only [List.forall_mem_cons]
  refine ⟨?_, ?_, ?_, ?_, ?_, ?_, ?_, ?_, ?_, ?_, ?_, ?_, ?_, ?_, ?_, ?_, ?_, by simp⟩ <;> simp [Ideal.ofBits, Ideal.ieee, -EReal.coe_mul] <;> norm_num

/-- At a lane whose keys are different, each key gets the number of larger keys, at most 16. -/
theorem ranks_at (x : FVec Ideal S128x128 .f32) (k l : Fin 128) (hx : Function.Injective fun k : Fin 128 => x (ix2 k l)) :
    ranks x (ix3 0 k l) = min (((Finset.univ.filter fun j : Fin 128 => x (ix2 k l) < x (ix2 j l)).card : ℕ) : EReal) ((16 : ℕ) : EReal) := by
  have key : ∀ i : Fin 16, x (ix2 k l) = tops x (ix2 i l) ↔ (Finset.univ.filter fun j : Fin 128 => x (ix2 k l) < x (ix2 j l)).card = i.val := fun i =>
    Ranking.eq_top_iff (fun k => x (ix2 k l)) _ i.val (tops_spec x l hx i).1 (tops_spec x l hx i).2 k
  have hc := consts
  simp only [List.forall_mem_cons] at hc
  generalize (Finset.univ.filter fun j : Fin 128 => x (ix2 k l) < x (ix2 j l)).card = n at key
  pointwise [ranks]
  rw [mark_at x _ 15 (by decide), mark_at x _ 14 (by decide), mark_at x _ 13 (by decide), mark_at x _ 12 (by decide), mark_at x _ 11 (by decide), mark_at x _ 10 (by decide), mark_at x _ 9 (by decide), mark_at x _ 8 (by decide), mark_at x _ 7 (by decide), mark_at x _ 6 (by decide), mark_at x _ 5 (by decide), mark_at x _ 4 (by decide), mark_at x _ 3 (by decide), mark_at x _ 2 (by decide), mark_at x _ 1 (by decide), mark_at x _ 0 (by decide)]
  simp only [key]
  obtain ⟨c0, c1, c2, c3, c4, c5, c6, c7, c8, c9, c10, c11, c12, c13, c14, c15, c16, -⟩ := hc
  simp only [c0, c1, c2, c3, c4, c5, c6, c7, c8, c9, c10, c11, c12, c13, c14, c15, c16]
  rcases lt_or_ge n 16 with h | h
  · rw [min_eq_left (EReal.natCast_le_iff.mpr h.le)]
    interval_cases n <;> rfl
  · rw [min_eq_right (EReal.natCast_le_iff.mpr h)]
    repeat rw [if_neg (by omega)]
    rfl

section links
attribute [local irreducible] maximumf minimumf select cmpf broadcastTo multiReduction shapeCast extractStridedSlice concatenate truncf broadcast Scalar.ofBits exp subf k0_pay6 trip_k0_t1.sl.r_1
variable (arg3 : Memref sig .tc .vmem S2x128x128 .bf16) (arg8 : Memref sig .tc .vmem S2048x512 .f32) (X3 : BufTy.Contents (Elt Ideal) arg3.view.ty) (X8 : BufTy.Contents (Elt Ideal) arg8.view.ty) (k : Fin k0_t1_loop.trips)

set_option maxHeartbeats 4000000 in
theorem ranks0 : k0_pay771 (trip_k0_t1.sl.r_3 arg3 arg8 X3 X8 k) (trip_k0_t1.sl.r_183 arg3 arg8 X3 X8 k) (trip_k0_t1.sl.r_256 arg3 arg8 X3 X8 k) = ranks (trip_k0_t1.sl.r_3 arg3 arg8 X3 X8 k) := by
  conv => lhs; reduce
  conv => rhs; reduce

set_option maxHeartbeats 4000000 in
theorem ranks1 : k0_pay1518 (trip_k0_t1.sl.r_260 arg3 arg8 X3 X8 k) (trip_k0_t1.sl.r_434 arg3 arg8 X3 X8 k) (trip_k0_t1.sl.r_505 arg3 arg8 X3 X8 k) = ranks (trip_k0_t1.sl.r_260 arg3 arg8 X3 X8 k) := by
  conv => lhs; reduce
  conv => rhs; reduce

set_option maxHeartbeats 4000000 in
theorem ranks2 : k0_pay2281 (trip_k0_t1.sl.r_765 arg3 arg8 X3 X8 k) = ranks (trip_k0_t1.sl.r_512 arg3 arg8 X3 X8 k) := by
  conv => lhs; reduce
  conv => rhs; reduce

set_option maxHeartbeats 4000000 in
theorem ranks3 : k0_pay4 (trip_k0_t1.sl.r_1009 arg3 arg8 X3 X8 k) = ranks (trip_k0_t1.sl.r_767 arg3 arg8 X3 X8 k) := by
  conv => lhs; reduce
  conv => rhs; reduce
end links
end Cert.RouteRank
end
-- ==== Proof.RouteR2.lean ====
module

public import proofs.«01_k».proof.Defs
public import proofs.«01_k».proof.Proof.RouteE2
public import proofs.«01_k».proof.Proof.RouteRank

/-!
# The keys' ranks of the second half

Both programs end with the same ranks: per head, key and token, how many keys have a larger weight, 16 standing for all
numbers from 16 on (`r2`). The reference counts; the kernel ranks by groups of lanes (Proof/RouteRank.lean). They agree
wherever the keys of a head and token have pairwise different weights, which is what the mask says.
-/

@[expose] public section

noncomputable section

namespace Cert.RouteR2

open Idealize.ShloMosaic Idealize.ShloMosaic.TcCoe Idealize.SL.Sem
open Cert.RouteE2

/-- The rank of entry `k`: how many entries are larger, at most 16. -/
def rk (f : Fin 128 → EReal) (k : Fin 128) : EReal := min (((Finset.univ.filter fun j => f k < f j).card : ℕ) : EReal) ((16 : ℕ) : EReal)

section arrays
variable (x : FVec Ideal ⟨2, ![32768, 1024]⟩ .bf16) (u : FVec Ideal ⟨3, ![1, 1024, 2048]⟩ .f32) (s : FVec Ideal ⟨4, ![1, 2, 128, 128]⟩ .f32)

/-- The weights of a head and token. -/
def wts (h : Fin 8) (t : Fin 32768) (k : Fin 128) : EReal := e2 x u s (ix3 h k t)

/-- The array of ranks. -/
def r2 : FVec Ideal ⟨3, ![8, 128, 32768]⟩ .bf16 := fun i => rk (wts x u s (i 0) (i 2)) (i 1)
end arrays

namespace R
open Cert.RouteRefIdeal Cert.RouteRefIdeal.Gen
variable (x : FVec Ideal S32768x1024 .bf16) (u : FVec Ideal S1x1024x2048 .f32) (s : FVec Ideal S1x2x128x128 .f32)

/-- The weights, as the reference's operations on the scores. -/
def ws (f : FVec Ideal S8x32768x128 .f32) : FVec Ideal S8x32768x128 .f32 :=
  Host.exp (subf f (broadcastInDim S8x32768x128 ![0, 1, 2] bcast_S8x32768x1_S8x32768x128_0_1_2 (broadcastInDim S8x32768x1 ![0, 1] bcast_S8x32768_S8x32768x1_0_1 (Host.reduce FloatOps.maximumf f (constant S_ .f32 0xFF800000#32) reducesTo_S8x32768x128_S8x32768_d2 h_S_))))

theorem ws_apply (f : FVec Ideal S8x32768x128 .f32) (h : Fin 8) (t : Fin 32768) (k : Fin 128) : ws f (ix3 h t k) = ex (fun k => f (ix3 h t k)) k := by
  pointwise [ws]
  rfl

theorem ws_eq (h : Fin 8) (t : Fin 32768) (k : Fin 128) : ws (RouteE2.R.sc x u s) (ix3 h t k) = wts x u s h t k :=
  (ws_apply _ _ _ _).trans (congrArg (ex · k) (funext fun k => RouteE2.R.sc_apply x u s h t k))

/-- The ranks, as the reference's operations on the weights. -/
def count (w : FVec Ideal S8x32768x128 .f32) : FVec Ideal S8x128x32768 .bf16 :=
  truncf .bf16 (transpose S8x128x32768 [0, 2, 1] (minimumf (Host.reduceAdd (select (cmpf .ogt (broadcastInDim S8x32768x128x128 ![0, 1, 2, 3] bcast_S8x32768x1x128_S8x32768x128x128_0_1_2_3 (broadcastInDim S8x32768x1x128 ![0, 1, 3] bcast_S8x32768x128_S8x32768x1x128_0_1_3 w)) (broadcastInDim S8x32768x128x128 ![0, 1, 2, 3] bcast_S8x32768x128x1_S8x32768x128x128_0_1_2_3 (broadcastInDim S8x32768x128x1 ![0, 1, 2] bcast_S8x32768x128_S8x32768x128x1_0_1_2 w))) (broadcastInDim S8x32768x128x128 ![] bcast_S_S8x32768x128x128 (constant S_ .f32 0x3F800000#32)) (broadcastInDim S8x32768x128x128 ![] bcast_S_S8x32768x128x128 (constant S_ .f32 0x00000000#32))) (constant S_ .f32 0x00000000#32) reducesTo_S8x32768x128x128_S8x32768x128_d3 h_S_) (broadcastInDim S8x32768x128 ![] bcast_S_S8x32768x128 (constant S_ .f32 0x41800000#32))) transposes_S8x32768x128_S8x128x32768_0_2_1) bitsLt_bf16_f32

theorem c16 : Ideal.ofBits .f32 0x41800000#32 = ((16 : ℕ) : EReal) := RouteRank.consts (16, 0x41800000#32) (by simp)

theorem count_apply (w : FVec Ideal S8x32768x128 .f32) (h : Fin 8) (t : Fin 32768) (k : Fin 128) : count w (ix3 h k t) = rk (fun k => w (ix3 h t k)) k := by
  pointwise [count]
  rw [Ranking.sum_count, c16]
  rfl

theorem r2_eq : count (ws (RouteE2.R.sc x u s)) = r2 x u s := by
  funext i
  rw [eq_ix3 i]
  exact (count_apply _ _ _ _).trans (congrArg (rk · (i 1)) (funext fun k => ws_eq x u s (i 0) (i 2) k))
end R

/-! The mask. -/

instance untied_facts : Cert.On_untied.Facts := by constructor <;> decide

namespace M
open Cert.On_untied Cert.On_untied.Facts

/-- How many keys have a key's weight, as the mask's operations on the weights. -/
def same (w : FVec Ideal S8x32768x128 .f32) : FVec Ideal S8x32768x128 .f32 :=
  Host.reduceAdd (select (cmpf .oeq (broadcastInDim S8x32768x128x128 ![0, 1, 2, 3] bcast_S8x32768x1x128_S8x32768x128x128_0_1_2_3 (broadcastInDim S8x32768x1x128 ![0, 1, 3] bcast_S8x32768x128_S8x32768x1x128_0_1_3 w)) (broadcastInDim S8x32768x128x128 ![0, 1, 2, 3] bcast_S8x32768x128x1_S8x32768x128x128_0_1_2_3 (broadcastInDim S8x32768x128x1 ![0, 1, 2] bcast_S8x32768x128_S8x32768x128x1_0_1_2 w))) (broadcastInDim S8x32768x128x128 ![] bcast_S_S8x32768x128x128 (constant S_ .f32 0x3F800000#32)) (broadcastInDim S8x32768x128x128 ![] bcast_S_S8x32768x128x128 (constant S_ .f32 0x00000000#32))) (constant S_ .f32 0x00000000#32) reducesTo_S8x32768x128x128_S8x32768x128_d3 h_S_

/-- The largest of them over the keys. -/
def most (n : FVec Ideal S8x32768x128 .f32) : FVec Ideal S8x32768 .f32 :=
  Host.reduce FloatOps.maximumf n (constant S_ .f32 0xFF800000#32) reducesTo_S8x32768x128_S8x32768_d2 h_S_

/-- Where it is at most one, for every key. -/
def one (n : FVec Ideal S8x32768 .f32) : IVec S8x128x32768 1 :=
  broadcastInDim S8x128x32768 ![0, 1, 2] bcast_S8x1x32768_S8x128x32768_0_1_2 (broadcastInDim S8x1x32768 ![0, 2] bcast_S8x32768_S8x1x32768_0_2 (cmpf .ole n (broadcastInDim S8x32768 ![] bcast_S_S8x32768 (constant (F := Ideal) S_ .f32 0x3F800000#32))))

theorem same_at (w : FVec Ideal S8x32768x128 .f32) (h : Fin 8) (t : Fin 32768) (k : Fin 128) :
    same w (ix3 h t k) = ((Finset.univ.filter fun j : Fin 128 => w (ix3 h t j) = w (ix3 h t k)).card : EReal) := by
  pointwise [same]
  exact Ranking.sum_count _

theorem most_at (n : FVec Ideal S8x32768x128 .f32) (h : Fin 8) (t : Fin 32768) :
    most n (ix2 h t) = Finset.fold max (Ideal.ofBits FTy.f32 4286578688#32) (fun k : Fin 128 => n (ix3 h t k)) Finset.univ := by
  pointwise [most]

theorem one_at (n : FVec Ideal S8x32768 .f32) (h : Fin 8) (t : Fin 32768) (k : Fin 128) (hm : one n (ix3 h k t) = 1#1) : n (ix2 h t) ≤ 1 := by
  revert hm
  pointwise [one]
  intro h1
  by_contra hn
  rw [decide_eq_false hn] at h1
  exact absurd h1 (by decide)

theorem fn_eq (x : FVec Ideal S32768x1024 .bf16) (u : FVec Ideal S1x1024x2048 .f32) (s : FVec Ideal S1x2x128x128 .f32) :
    (Cert.On_untied.fn (F := Ideal) x u s).2 = one (most (same (R.ws (RouteE2.R.sc x u s)))) := rfl

/-- Where the mask is set the weights of the head and token are different. -/
theorem one_inj (w : FVec Ideal S8x32768x128 .f32) (h : Fin 8) (t : Fin 32768) (k : Fin 128) (hm : one (most (same w)) (ix3 h k t) = 1#1) :
    Function.Injective fun k : Fin 128 => w (ix3 h t k) := by
  have hle := one_at _ _ _ _ hm
  rw [most_at] at hle
  intro a b hab
  have ha := ((Finset.fold_max_le _).mp hle).2 a (Finset.mem_univ a)
  rw [same_at, ← Nat.cast_one, EReal.natCast_le_iff] at ha
  exact Finset.card_le_one.mp ha a (Finset.mem_filter.mpr ⟨Finset.mem_univ _, rfl⟩) b (Finset.mem_filter.mpr ⟨Finset.mem_univ _, hab.symm⟩)
end M
namespace K
open Cert.RouteIdeal Cert.RouteIdeal.Gen Cert.RouteE2.K

/-! What the kernel ranks, of any scores. -/

theorem w0 (a : FVec Ideal S1x128x128 .bf16) (b : FVec Ideal S128x512 .f32) (k l : Fin 128) :
    k0_pay8 (F := Ideal) a b (ix2 k l) = ex (fun k => k0_pay6 (F := Ideal) a b (ix2 k ⟨l.val, by omega⟩)) k := by
  pointwise [k0_pay8]
  rfl

theorem w1 (f : FVec Ideal S128x512 .f32) (k l : Fin 128) : k0_pay773 (F := Ideal) f (ix2 k l) = ex (fun k => f (ix2 k ⟨128 + l.val, by omega⟩)) k := by
  pointwise [k0_pay773]
  rfl

theorem w2 (f : FVec Ideal S128x512 .f32) (k l : Fin 128) : k0_pay1523 (F := Ideal) (k0_pay1520 f) (ix2 k l) = ex (fun k => f (ix2 k ⟨256 + l.val, by omega⟩)) k := by
  pointwise [k0_pay1520, k0_pay1523]
  rfl

theorem w3 (f : FVec Ideal S128x512 .f32) (k l : Fin 128) : k0_pay2283 (F := Ideal) f (ix2 k l) = ex (fun k => f (ix2 k ⟨384 + l.val, by omega⟩)) k := by
  pointwise [k0_pay2283]
  rfl

/-- The weights of a block's column. -/
def col (K : FVec Ideal S2x128x128 .bf16) (Q : FVec Ideal S2048x512 .f32) (h : Fin 8) (l : Fin 512) (k : Fin 128) : EReal := blk K Q (ix3 h k l)

/-- `v` is the rank at `y`, if the column's weights are different. -/
def Ranked (K : FVec Ideal S2x128x128 .bf16) (Q : FVec Ideal S2048x512 .f32) (y : S8x128x512.Idx) (v : EReal) : Prop :=
  Function.Injective (col K Q (y 0) (y 2)) → v = rk (col K Q (y 0) (y 2)) (y 1)

/-- A stored piece holds ranks when it is the ranks of its head's weights at its lanes. -/
theorem piece (K : FVec Ideal S2x128x128 .bf16) (Q : FVec Ideal S2048x512 .f32) (k : Fin k0_t1_loop.trips) (off : Fin 3 → ℕ) (o : ℕ) (ho : o + 128 ≤ 512)
    (e : off = ![k.val, 0, o]) (inb : ∀ a, off a + S1x128x128.size a ≤ S8x128x512.size a) (w : FVec Ideal S1x128x128 .bf16) (X : FVec Ideal S128x128 .f32)
    (hw : w = RouteRank.ranks X)
    (hX : ∀ κ l : Fin 128, X (ix2 κ l) = ex (fun κ => ∑ d, K (ix3 1 κ d) * Q (ix2 (qcol (head k) d) ⟨o + l.val, by omega⟩)) κ) (x : S1x128x128.Idx) :
    Ranked K Q ((Rect.unit (s := S8x128x512) off S1x128x128.size inb).emb x) (w x) := by
  have h2 : (x 2).val < 128 := (x 2).isLt
  have h0 : (x 0).val < 1 := (x 0).isLt
  rw [emb3 off k.val 0 o e _ inb x (ix3 (head k) (x 1) ⟨o + (x 2).val, by omega⟩) (show k.val = k.val + (x 0).val by omega) (zero_add _).symm rfl]
  have hx : x = ix3 0 (x 1) (x 2) := by
    refine (eq_ix3 x).trans (congrArg (fun z => ix3 z (x 1) (x 2)) (Fin.ext ?_))
    show (x 0).val = 0
    omega
  have hc : (fun κ : Fin 128 => X (ix2 κ (x 2))) = col K Q (head k) ⟨o + (x 2).val, by omega⟩ := funext fun κ => hX κ (x 2)
  intro hi
  have hi' : Function.Injective fun κ : Fin 128 => X (ix2 κ (x 2)) := Eq.mpr (congrArg Function.Injective hc) hi
  have e1 : w x = w (ix3 0 (x 1) (x 2)) := congrArg w hx
  have e2 : w (ix3 0 (x 1) (x 2)) = RouteRank.ranks X (ix3 0 (x 1) (x 2)) := congrFun hw _
  have e3 : RouteRank.ranks X (ix3 0 (x 1) (x 2)) = rk (fun κ => X (ix2 κ (x 2))) (x 1) := RouteRank.ranks_at X (x 1) (x 2) hi'
  have e4 : rk (fun κ : Fin 128 => X (ix2 κ (x 2))) (x 1) = rk (col K Q (head k) ⟨o + (x 2).val, by omega⟩) (x 1) := congrArg (fun f => rk f (x 1)) hc
  exact e1.trans (e2.trans (e3.trans e4))

section trip
variable (c : Dev nD) (i : grid0.Coords) (arg1 : Memref sig .tc .vmem S512x1024 .bf16) (harg1 : arg1.IsWhole) (arg2 : Memref sig .tc .vmem S2048x1024 .bf16) (harg2 : arg2.IsWhole) (arg3 : Memref sig .tc .vmem S2x128x128 .bf16) (harg3 : arg3.IsWhole) (arg4 : Memref sig .tc .vmem S8x128x512 .f32) (harg4 : arg4.IsWhole) (arg5 : Memref sig .tc .vmem S8x128x512 .f32) (harg5 : arg5.IsWhole) (arg6 : Memref sig .tc .vmem S8x128x512 .bf16) (harg6 : arg6.IsWhole) (arg7 : Memref sig .tc .vmem S8x128x512 .bf16) (harg7 : arg7.IsWhole) (arg8 : Memref sig .tc .vmem S2048x512 .f32) (harg8 : arg8.IsWhole)

theorem trip_pieces (𝒱 : Variants) (bd : Option 𝒱.V) (v7 : IVec S8x128 32) (X3 : BufTy.Contents (Elt Ideal) arg3.view.ty) (X8 : BufTy.Contents (Elt Ideal) arg8.view.ty) (k : Fin k0_t1_loop.trips) :
    ∀ p ∈ (trip_k0_t1 (F := Ideal) 𝒱 c bd i arg1 harg1 arg2 harg2 arg3 harg3 arg4 harg4 arg5 harg5 arg6 harg6 arg7 harg7 arg8 harg8 v7 X3 X8 k).2.2.2.1, ∀ x : p.1.shape.Idx,
      Ranked (arg3.view.read (Elt Ideal) X3) (arg8.view.read (Elt Ideal) X8) (p.1.emb x) (p.2 x) := by
  delta trip_k0_t1
  dsimp only
  simp only [List.forall_mem_cons]
  refine ⟨fun x => ?_, fun x => ?_, fun x => ?_, fun x => ?_, by simp⟩
  · refine piece _ _ k _ 384 (by decide) (k0_off6_eq k) _ _ _ (RouteRank.ranks3 arg3 arg8 X3 X8 k) (fun κ l => ?_) x
    unfold trip_k0_t1.sl.r_767 trip_k0_t1.sl.r_1
    exact (w3 _ κ l).trans (congrArg (ex · κ) (funext fun κ => scores_at _ _ _ _ k κ _))
  · refine piece _ _ k _ 256 (by decide) (k0_off5_eq k) _ _ _ (RouteRank.ranks2 arg3 arg8 X3 X8 k) (fun κ l => ?_) x
    unfold trip_k0_t1.sl.r_512 trip_k0_t1.sl.r_509 trip_k0_t1.sl.r_1
    exact (w2 _ κ l).trans (congrArg (ex · κ) (funext fun κ => scores_at _ _ _ _ k κ _))
  · refine piece _ _ k _ 128 (by decide) (k0_off4_eq k) _ _ _ (RouteRank.ranks1 arg3 arg8 X3 X8 k) (fun κ l => ?_) x
    unfold trip_k0_t1.sl.r_260 trip_k0_t1.sl.r_1
    exact (w1 _ κ l).trans (congrArg (ex · κ) (funext fun κ => scores_at _ _ _ _ k κ _))
  · refine piece _ _ k _ 0 (by decide) (k0_off3_eq k) _ _ _ (RouteRank.ranks0 arg3 arg8 X3 X8 k) (fun κ l => ?_) x
    unfold trip_k0_t1.sl.r_3
    refine (w0 _ _ κ l).trans (congrArg (ex · κ) (funext fun κ => (scores_at _ _ _ _ k κ _).trans ?_))
    simp only [zero_add]

/-- Every piece of the trips before `n` holds ranks. -/
theorem loop_pieces (𝒱 : Variants) (bd : Option 𝒱.V) (v7 : IVec S8x128 32) (X3 : BufTy.Contents (Elt Ideal) arg3.view.ty) (X8 : BufTy.Contents (Elt Ideal) arg8.view.ty) :
    ∀ n : ℕ, n ≤ k0_t1_loop.trips → ∀ p ∈ (pb_k0_t1 (F := Ideal) 𝒱 c bd i arg1 harg1 arg2 harg2 arg3 harg3 arg4 harg4 arg5 harg5 arg6 harg6 arg7 harg7 arg8 harg8 v7 X3 X8 n).2.2.2, ∀ x : p.1.shape.Idx,
      Ranked (arg3.view.read (Elt Ideal) X3) (arg8.view.read (Elt Ideal) X8) (p.1.emb x) (p.2 x)
  | 0, _ => by
    rw [pb_k0_t1.eq_1]
    simp
  | n + 1, h => by
    rw [pb_k0_t1_succ 𝒱 c bd i arg1 harg1 arg2 harg2 arg3 harg3 arg4 harg4 arg5 harg5 arg6 harg6 arg7 harg7 arg8 harg8 v7 X3 X8 ⟨n, h⟩]
    intro p hp
    rcases List.mem_append.mp hp with hp | hp
    · unfold tripL_k0_t1 at hp
      exact trip_pieces c i arg1 harg1 arg2 harg2 arg3 harg3 arg4 harg4 arg5 harg5 arg6 harg6 arg7 harg7 arg8 harg8 𝒱 bd v7 X3 X8 ⟨n, h⟩ p hp
    · exact loop_pieces 𝒱 bd v7 X3 X8 n (Nat.le_of_succ_le h) p hp

/-- What the body leaves in the block of ranks. -/
theorem out_ranked (x0 : Vec Ideal S512x1024 .bf16) (x1 : Vec Ideal S2048x1024 .bf16) (x2 : Vec Ideal S2x128x128 .bf16) (y : S8x128x512.Idx) :
    Ranked x2 (k0_pay1 (F := Ideal) x1 x0) y (out0_A_6 (F := Ideal) c i arg1 harg1 arg2 harg2 arg3 harg3 arg4 harg4 arg5 harg5 arg6 harg6 arg7 harg7 arg8 harg8 x0 x1 x2 y) := by
  unfold out0_A_6
  refine (read_of_pieces _ _ (Ranked x2 (k0_pay1 (F := Ideal) x1 x0)) y _ ?_ (cover0_A_6 c i arg1 harg1 arg2 harg2 arg3 harg3 arg4 harg4 arg5 harg5 arg6 harg6 arg7 harg7 arg8 harg8 x0 x1 x2 y))
  delta kernelRun0_A
  dsimp only
  unfold kernelRun0_A.sl.HS0_1
  intro p hp x
  have h := loop_pieces c i arg1 harg1 arg2 harg2 arg3 harg3 arg4 harg4 arg5 harg5 arg6 harg6 arg7 harg7 arg8 harg8 Variants.none none _ _ _ _ (le_refl k0_t1_loop.trips) p hp x
  rw [harg3.read_unread] at h
  refine cast (congrArg (fun Q => Ranked x2 Q _ _) ((View.read_writes_full _ _ _ _ _).trans (congrArg₂ (k0_pay1 (F := Ideal)) ?_ ?_))) h
  · exact (View.readAt_full _ _ _).trans (harg2.read_unread _)
  · exact (View.readAt_full _ _ _).trans (harg1.read_unread _)
end trip

variable (m : (ℓ : Loc nD τ sig) → Buf (Elt Ideal) ℓ) (c : Dev nD)

/-- The window's block index at a grid point. -/
theorem idx6 : ∀ t : Fin cfg0.N, win0_6.index t = ![0, 0, t.val] := (by decide +kernel : ∀ t : Fin grid0.N, _)

theorem emb_r2 (t : Fin cfg0.N) (h : Fin 8) (k : Fin 128) (a : Fin 512) : ((View.whole main_v5_3).slice (win0_6.rect t)).emb (ix3 h k a) = ix3 h k (tok t a) := by
  have e := idx6 t
  funext k
  fin_cases k <;> apply Fin.ext <;> refine (Pipeline.Window.rect_emb_val _ t _ _).trans ?_ <;> simp [e, tok]

/-- What the body leaves in the block of ranks at grid point `t`. -/
def B (t : Fin cfg0.N) : FVec Ideal S8x128x512 .bf16 := (outsAt0 m c t).2.2.2

/-- The grid point of a token, and its place there. -/
def pt (t : Fin 32768) : Fin cfg0.N := ⟨t.val / 512, lt_of_lt_of_eq (by omega : t.val / 512 < 64) (by decide)⟩
def lane (t : Fin 32768) : Fin 512 := ⟨t.val % 512, Nat.mod_lt _ (by decide)⟩

theorem final6 : (dats m 0 c).arrAt 6 cfg0.N = fun i : S8x128x32768.Idx => B m c (pt (i 2)) (ix3 (i 0) (i 1) (lane (i 2))) := by
  refine (dats m 0 c).arrAt_eq_of_covers 6 _ (by decide +kernel) fun t hf y => ?_
  blk_simp
  rw [after0_6]
  rw [eq_ix3 y]
  generalize (y 0 : Fin 8) = h
  generalize (y 1 : Fin 128) = k
  generalize (y 2 : Fin 512) = a
  have e1 : pt (tok t a) = t := Fin.ext (by simp only [pt, tok]; omega)
  have e2 : lane (tok t a) = a := Fin.ext (by simp only [lane, tok]; omega)
  refine Eq.trans ?_ (congrArg (fun i : S8x128x32768.Idx => B m c (pt (i 2)) (ix3 (i 0) (i 1) (lane (i 2)))) (emb_r2 t h k a).symm)
  show _ = B m c (pt (tok t a)) (ix3 h k (lane (tok t a)))
  rw [e1, e2]
  rfl

/-- A block's column, when the operands are the arrays' blocks, is the array's. -/
theorem col_eq (t : Fin cfg0.N) (h : Fin 8) (a : Fin 512) :
    col (iblk m c 2 t) (k0_pay1 (F := Ideal) (iblk m c 1 t) (iblk m c 0 t)) h a
      = wts (m ((c : Thread nD τ).loc main_arg0)) (m ((c : Thread nD τ).loc main_arg1)) (m ((c : Thread nD τ).loc main_arg2)) h (tok t a) :=
  funext fun k => blk_at _ _ _ _ _ _ (tok t a) a (blk_hn m c t a) (blk_wq m c t) (blk_keys m c t 1) h k

/-- What the kernel leaves in the array of ranks, where a head's and token's weights are different. -/
theorem final6_at (h : Fin 8) (k : Fin 128) (t : Fin 32768)
    (hi : Function.Injective (wts (m ((c : Thread nD τ).loc main_arg0)) (m ((c : Thread nD τ).loc main_arg1)) (m ((c : Thread nD τ).loc main_arg2)) h t)) :
    (dats m 0 c).arrAt 6 cfg0.N (ix3 h k t) = r2 (m ((c : Thread nD τ).loc main_arg0)) (m ((c : Thread nD τ).loc main_arg1)) (m ((c : Thread nD τ).loc main_arg2)) (ix3 h k t) := by
  have et : tok (pt t) (lane t) = t := Fin.ext (by simp only [tok, pt, lane]; omega)
  have hc := col_eq m c (pt t) h (lane t)
  rw [et] at hc
  rw [final6]
  show B m c (pt t) (ix3 h k (lane t)) = rk (wts _ _ _ h t) k
  simp only [B, outsAt0]
  refine (out_ranked c _ _ _ _ _ _ _ _ _ _ _ _ _ _ _ _ _ _ _ _ (ix3 h k (lane t)) (Eq.mpr (congrArg Function.Injective hc) hi)).trans ?_
  exact congrArg (fun f => rk f k) hc
end K

/-- Where the mask is set the weights are different. -/
theorem untied_inj (x : FVec Ideal ⟨2, ![32768, 1024]⟩ .bf16) (u : FVec Ideal ⟨3, ![1, 1024, 2048]⟩ .f32) (s : FVec Ideal ⟨4, ![1, 2, 128, 128]⟩ .f32) (h : Fin 8) (k : Fin 128) (t : Fin 32768)
    (hm : (Cert.On_untied.fn (F := Ideal) x u s).2 (ix3 h k t) = 1#1) : Function.Injective (wts x u s h t) := by
  rw [M.fn_eq] at hm
  have hi := M.one_inj _ h t k hm
  rwa [show (fun k : Fin 128 => R.ws (RouteE2.R.sc x u s) (ix3 h t k)) = wts x u s h t from funext fun k => R.ws_eq x u s h t k] at hi

open Cert.RouteIdeal in
/-- From equal arguments the kernel and the reference end with the same weights, and with the same ranks where the mask is set. -/
theorem value : Cert.algebraic_RouteIdeal_RouteRefIdeal_on_untied := by
  intro m g m' g' _ h
  refine ⟨fun c => e2 (m ((c.tc : Thread nD τ).loc main_arg0)) (m ((c.tc : Thread nD τ).loc main_arg1)) (m ((c.tc : Thread nD τ).loc main_arg2)),
    fun c => r2 (m ((c.tc : Thread nD τ).loc main_arg0)) (m ((c.tc : Thread nD τ).loc main_arg1)) (m ((c.tc : Thread nD τ).loc main_arg2)),
    (θ_run _ _ _).mono (fun r k c => ?_) (Cert.RouteIdeal.Value.run_blocks (F := Ideal) m g),
    (θ_run _ _ _).mono (fun r k c => ?_) (Cert.RouteRefIdeal.Value.run (F := Ideal) m' g')⟩
  · obtain ⟨k0, k1, k2, k3, k4⟩ := k c
    refine ⟨fun i _ => congrFun (k2.trans (RouteE2.K.final5 m c)) i, fun i hi => (congrFun k3 i).trans ?_, k4⟩
    rw [eq_ix3 i] at hi ⊢
    exact K.final6_at m c (i 0) (i 1) (i 2) (untied_inj _ _ _ (i 0) (i 1) (i 2) hi)
  · obtain ⟨k0, k1, k2⟩ := k c
    obtain ⟨h0, h1, h2⟩ := h c
    refine ⟨fun i _ => congrFun (k0.trans ?_) i, fun i _ => congrFun (k1.trans ?_) i, k2⟩
    · rw [h0, h1, h2]
      exact RouteE2.R.e2_eq _ _ _
    · unfold Cert.RouteRefIdeal.Value.res_main_v28
      rw [h0, h1, h2]
      exact R.r2_eq _ _ _
end Cert.RouteR2

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.RouteRefIdeal
public import proofs.«01_k».proof.Proof.Gen.RouteRefIdeal.Run
public import proofs.«01_k».proof.Proof.Gen.Route
public import proofs.«01_k».proof.Proof.Gen.Route.Skeleton
public import proofs.«01_k».proof.Proof.Gen.Route.Loops
public import proofs.«01_k».proof.Proof.Gen.Route.Launch
public import proofs.«01_k».proof.Proof.Gen.Route.Points
public import proofs.«01_k».proof.Proof.Gen.Route.Frame
public import proofs.«01_k».proof.Proof.Gen.RouteIdeal
public import proofs.«01_k».proof.Proof.Gen.RouteIdeal.Skeleton
public import proofs.«01_k».proof.Proof.Gen.RouteIdeal.Loops
public import proofs.«01_k».proof.Proof.Gen.RouteIdeal.Launch
public import proofs.«01_k».proof.Proof.Gen.RouteIdeal.Points
public import proofs.«01_k».proof.Proof.Gen.RouteIdeal.Frame
public import proofs.«01_k».proof.Proof.Gen.InprojIdeal.Value
public import proofs.«01_k».proof.Proof.Gen.InprojRefIdeal.Run
public import proofs.«01_k».proof.Proof.Gen.RouteIdeal.Value
public import proofs.«01_k».proof.Proof.InProj
public import proofs.«01_k».proof.Proof.RouteE2
public import proofs.«01_k».proof.Proof.RouteR2
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.Inproj.Gen.facts, Cert.InprojIdeal.Gen.facts, Cert.InprojRefIdeal.Gen.facts,
    Cert.Route.Gen.facts, Cert.RouteIdeal.Gen.facts, Cert.RouteRefIdeal.Gen.facts, Cert.RouteR2.untied_facts,
    fun m ρ _ => Cert.Kernel.Gen.frame m ρ,
    fun m ρ _ => Cert.KernelIdeal.Gen.frame m ρ,
    fun m ρ _ => Cert.Inproj.Gen.frame m ρ,
    fun m ρ _ => Cert.InprojIdeal.Gen.frame m ρ,
    fun m ρ _ => Cert.InProj.ref_frame m ρ,
    fun m ρ _ => Cert.Route.Gen.frame m ρ,
    fun m ρ _ => Cert.RouteIdeal.Gen.frame m ρ,
    fun m ρ _ => Cert.RouteE2.ref_frame m ρ,
    trivial, trivial,
    fun m g m' g' _ h => Cert.InProj.value m g m' g' h,
    trivial,
    Cert.RouteR2.value⟩

end Cert.Proof

end
